-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![64, 512, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S2048x512 : Shape := ⟨2, ![2048, 512]⟩
abbrev S512x64 : Shape := ⟨2, ![512, 64]⟩
abbrev S2048x1 : Shape := ⟨2, ![2048, 1]⟩
abbrev S8x512x1024 : Shape := ⟨3, ![8, 512, 1024]⟩
abbrev S512x1024 : Shape := ⟨2, ![512, 1024]⟩
abbrev S_ : Shape := ⟨0, ![]⟩

class Facts : Prop where
  bcast_S_S2048x1 : S_.BroadcastsInDim S2048x1 (![] : Fin 0 → Fin S2048x1.rank)

variable [Facts]

def fn {F : FTy → Type} [FloatOps F] (main_arg0 : FVec F S2048x512 .f32) (main_arg1 : FVec F S512x64 .f32) (main_arg2 : IVec S2048x1 32) (main_arg3 : FVec F S8x512x1024 .f32) (main_arg4 : FVec F S512x1024 .f32) : IVec S2048x1 1 × IVec S2048x1 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 64#32
  let main_v2 : IVec S2048x1 32 := broadcastInDim S2048x1 ![] bcast_S_S2048x1 main_c_0
  let main_v3 : IVec S2048x1 1 := cmpi .slt main_arg2 main_v2
  (main_v1, main_v3)
-- ==== Pre_in_range_ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S512x1024 : Shape := ⟨2, ![512, 1024]⟩
abbrev S_ : Shape := ⟨0, ![]⟩

class Facts : Prop where
  bcast_S_S2048x1 : S_.BroadcastsInDim S2048x1 (![] : Fin 0 → Fin S2048x1.rank)

variable [Facts]

def fn {F : FTy → Type} [FloatOps F] (main_arg0 : FVec F S2048x512 .f32) (main_arg1 : FVec F S512x64 .f32) (main_arg2 : IVec S2048x1 32) (main_arg3 : FVec F S64x512x1024 .f32) (main_arg4 : FVec F S512x1024 .f32) : IVec S2048x1 1 × IVec S2048x1 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 64#32
  let main_v2 : IVec S2048x1 32 := broadcastInDim S2048x1 ![] bcast_S_S2048x1 main_c_0
  let main_v3 : IVec S2048x1 1 := cmpi .slt main_arg2 main_v2
  (main_v1, main_v3)
-- ==== Kernel.lean ====
abbrev S2048x512 : Shape := ⟨2, ![2048, 512]⟩
abbrev S512x64 : Shape := ⟨2, ![512, 64]⟩
abbrev S2048x1 : Shape := ⟨2, ![2048, 1]⟩
abbrev S8x512x1024 : Shape := ⟨3, ![8, 512, 1024]⟩
abbrev S512x1024 : Shape := ⟨2, ![512, 1024]⟩
abbrev S2048x1024 : Shape := ⟨2, ![2048, 1024]⟩
abbrev S1792x1024 : Shape := ⟨2, ![1792, 1024]⟩
abbrev S3x3 : Shape := ⟨2, ![3, 3]⟩
abbrev S_ : Shape := ⟨0, ![]⟩
abbrev S2048x64 : Shape := ⟨2, ![2048, 64]⟩
abbrev S2048 : Shape := ⟨1, ![2048]⟩
abbrev S1x64 : Shape := ⟨2, ![1, 64]⟩
abbrev S1x512x384 : Shape := ⟨3, ![1, 512, 384]⟩
abbrev S512x384 : Shape := ⟨2, ![512, 384]⟩
abbrev S2048x384 : Shape := ⟨2, ![2048, 384]⟩
abbrev S1x1 : Shape := ⟨2, ![1, 1]⟩
abbrev S1024x384 : Shape := ⟨2, ![1024, 384]⟩
abbrev S1x512x256 : Shape := ⟨3, ![1, 512, 256]⟩
abbrev S512x256 : Shape := ⟨2, ![512, 256]⟩
abbrev S2048x256 : Shape := ⟨2, ![2048, 256]⟩
abbrev S1024x256 : Shape := ⟨2, ![1024, 256]⟩
abbrev S256x384 : Shape := ⟨2, ![256, 384]⟩
abbrev S256x256 : Shape := ⟨2, ![256, 256]⟩
abbrev S256x512 : Shape := ⟨2, ![256, 512]⟩

abbrev nBuf : Space → Nat
  | .hbm => 6
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x1, .i32⟩
  | .hbm, ⟨3, _⟩ => ⟨S8x512x1024, .f32⟩
  | .hbm, ⟨4, _⟩ => ⟨S512x1024, .f32⟩
  | .hbm, ⟨5, _⟩ => ⟨S2048x1024, .f32⟩
  | .local _ .vmem, ⟨0, _⟩ => ⟨S2048x512, .f32⟩
  | .local _ .vmem, ⟨1, _⟩ => ⟨S512x64, .f32⟩
  | .local _ .vmem, ⟨2, _⟩ => ⟨S2048x1, .i32⟩
  | .local _ .vmem, ⟨3, _⟩ => ⟨S8x512x1024, .f32⟩
  | .local _ .vmem, ⟨4, _⟩ => ⟨S512x1024, .f32⟩
  | .local _ .vmem, ⟨5, _⟩ => ⟨S2048x1024, .f32⟩
  | .local _ .vmem, ⟨6, _⟩ => ⟨S1792x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let c4_i32_7 : BitVec 32 := 4#32
  let v12 : BitVec 32 := Scalar.muli v10 c4_i32_7
  let c2_i32_8 : BitVec 32 := 2#32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v13 : BitVec 32 := Scalar.muli c2_i32_8 v9
  let v14 : BitVec 32 := Scalar.addi v12 v13
  let c1_i32_6 : BitVec 32 := 1#32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v11 : BitVec 32 := Scalar.subi c1_i32_6 v7
  let v15 : BitVec 32 := Scalar.xori v11 v9
  let v16 : BitVec 32 := Scalar.addi v14 v15
  let c1_i32_16 : BitVec 32 := 1#32
  let v30 : BitVec 32 := Scalar.muli v16 c1_i32_16
  let v31 : BitVec 32 := Scalar.addi c0_i32_17 v30
  v31.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let c4_i32_10 : BitVec 32 := 4#32
  let v18 : BitVec 32 := Scalar.muli v10 c4_i32_10
  let c2_i32_11 : BitVec 32 := 2#32
  let c1_i32_9 : BitVec 32 := 1#32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v17 : BitVec 32 := Scalar.subi c1_i32_9 v9
  let v19 : BitVec 32 := Scalar.muli c2_i32_11 v17
  let v20 : BitVec 32 := Scalar.addi v18 v19
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v21 : BitVec 32 := Scalar.xori v7 v17
  let v22 : BitVec 32 := Scalar.addi v20 v21
  let c1_i32_19 : BitVec 32 := 1#32
  let v32 : BitVec 32 := Scalar.muli v22 c1_i32_19
  let v33 : BitVec 32 := Scalar.addi c0_i32_20 v32
  v33.toNat
def k0_dev3 (d0 : Dev nD) : Nat :=
  let c0_i32_23 : BitVec 32 := 0#32
  let c1_i32_12 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let v23 : BitVec 32 := Scalar.subi c1_i32_12 v10
  let c4_i32_13 : BitVec 32 := 4#32
  let v24 : BitVec 32 := Scalar.muli v23 c4_i32_13
  let c2_i32_14 : BitVec 32 := 2#32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v25 : BitVec 32 := Scalar.muli c2_i32_14 v9
  let v26 : BitVec 32 := Scalar.addi v24 v25
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v27 : BitVec 32 := Scalar.xori v7 v9
  let v28 : BitVec 32 := Scalar.addi v26 v27
  let c1_i32_22 : BitVec 32 := 1#32
  let v34 : BitVec 32 := Scalar.muli v28 c1_i32_22
  let v35 : BitVec 32 := Scalar.addi c0_i32_23 v34
  v35.toNat
def k0_off1 (d0 : Dev nD) : Fin 2 → Nat :=
  let c0_i32_109 : BitVec 32 := 0#32
  let c1_i32_108 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v178 : BitVec 32 := Scalar.subi c1_i32_108 v7
  let c1024_i32 : BitVec 32 := 1024#32
  let v179 : BitVec 32 := Scalar.muli v178 c1024_i32
  let v180 : BitVec 32 := Scalar.addi c0_i32_109 v179
  let c0_i32_118 : BitVec 32 := 0#32
  ![v180.toNat, 0]
def k0_dev4 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let c4_i32_7 : BitVec 32 := 4#32
  let v12 : BitVec 32 := Scalar.muli v10 c4_i32_7
  let c2_i32_8 : BitVec 32 := 2#32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v13 : BitVec 32 := Scalar.muli c2_i32_8 v9
  let v14 : BitVec 32 := Scalar.addi v12 v13
  let c1_i32_6 : BitVec 32 := 1#32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v11 : BitVec 32 := Scalar.subi c1_i32_6 v7
  let v15 : BitVec 32 := Scalar.xori v11 v9
  let v16 : BitVec 32 := Scalar.addi v14 v15
  let c1_i32_114 : BitVec 32 := 1#32
  let v181 : BitVec 32 := Scalar.muli v16 c1_i32_114
  let v182 : BitVec 32 := Scalar.addi c0_i32_115 v181
  v182.toNat
def k0_off2 (d0 : Dev nD) : Fin 2 → Nat :=
  let c0_i32_208 : BitVec 32 := 0#32
  let c1_i32_206 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v308 : BitVec 32 := Scalar.subi c1_i32_206 v9
  let c1024_i32_207 : BitVec 32 := 1024#32
  let v309 : BitVec 32 := Scalar.muli v308 c1024_i32_207
  let v310 : BitVec 32 := Scalar.addi c0_i32_208 v309
  let c384_i32_216 : BitVec 32 := 384#32
  ![v310.toNat, 384]
def k0_dev5 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let c4_i32_10 : BitVec 32 := 4#32
  let v18 : BitVec 32 := Scalar.muli v10 c4_i32_10
  let c2_i32_11 : BitVec 32 := 2#32
  let c1_i32_9 : BitVec 32 := 1#32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v17 : BitVec 32 := Scalar.subi c1_i32_9 v9
  let v19 : BitVec 32 := Scalar.muli c2_i32_11 v17
  let v20 : BitVec 32 := Scalar.addi v18 v19
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v21 : BitVec 32 := Scalar.xori v7 v17
  let v22 : BitVec 32 := Scalar.addi v20 v21
  let c1_i32_213 : BitVec 32 := 1#32
  let v311 : BitVec 32 := Scalar.muli v22 c1_i32_213
  let v312 : BitVec 32 := Scalar.addi c0_i32_214 v311
  v312.toNat
def k0_off3 (d0 : Dev nD) : Fin 2 → Nat :=
  let c0_i32_306 : BitVec 32 := 0#32
  let c1_i32_304 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let v438 : BitVec 32 := Scalar.subi c1_i32_304 v10
  let c1024_i32_305 : BitVec 32 := 1024#32
  let v439 : BitVec 32 := Scalar.muli v438 c1024_i32_305
  let v440 : BitVec 32 := Scalar.addi c0_i32_306 v439
  let c768_i32_314 : BitVec 32 := 768#32
  ![v440.toNat, 768]
def k0_dev6 (d0 : Dev nD) : Nat :=
  let c0_i32_312 : BitVec 32 := 0#32
  let c1_i32_12 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let v23 : BitVec 32 := Scalar.subi c1_i32_12 v10
  let c4_i32_13 : BitVec 32 := 4#32
  let v24 : BitVec 32 := Scalar.muli v23 c4_i32_13
  let c2_i32_14 : BitVec 32 := 2#32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v25 : BitVec 32 := Scalar.muli c2_i32_14 v9
  let v26 : BitVec 32 := Scalar.addi v24 v25
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v27 : BitVec 32 := Scalar.xori v7 v9
  let v28 : BitVec 32 := Scalar.addi v26 v27
  let c1_i32_311 : BitVec 32 := 1#32
  let v441 : BitVec 32 := Scalar.muli v28 c1_i32_311
  let v442 : BitVec 32 := Scalar.addi c0_i32_312 v441
  v442.toNat
def k0_off4 (d0 : Dev nD) : Fin 2 → Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c1024_i32_119 : BitVec 32 := 1024#32
  let v189 : BitVec 32 := Scalar.muli v7 c1024_i32_119
  let v190 : BitVec 32 := Scalar.addi c0_i32_120 v189
  let v461 : Index := Scalar.indexCast v190
  let c0_334 : Index := 0#32
  ![v461.toNat, 0]
def k0_off5 (d0 : Dev nD) : Fin 2 → Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c1024_i32_119 : BitVec 32 := 1024#32
  let v189 : BitVec 32 := Scalar.muli v7 c1024_i32_119
  let v190 : BitVec 32 := Scalar.addi c0_i32_120 v189
  let c1_i32_338 : BitVec 32 := 1#32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v468 : BitVec 32 := Scalar.subi c1_i32_338 v9
  let c512_i32 : BitVec 32 := 512#32
  let v469 : BitVec 32 := Scalar.muli v468 c512_i32
  let v470 : BitVec 32 := Scalar.addi v190 v469
  let c0_i32_347 : BitVec 32 := 0#32
  ![v470.toNat, 0]
def k0_dev7 (d0 : Dev nD) : Nat :=
  let c0_i32_344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let c4_i32_10 : BitVec 32 := 4#32
  let v18 : BitVec 32 := Scalar.muli v10 c4_i32_10
  let c2_i32_11 : BitVec 32 := 2#32
  let c1_i32_9 : BitVec 32 := 1#32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v17 : BitVec 32 := Scalar.subi c1_i32_9 v9
  let v19 : BitVec 32 := Scalar.muli c2_i32_11 v17
  let v20 : BitVec 32 := Scalar.addi v18 v19
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v21 : BitVec 32 := Scalar.xori v7 v17
  let v22 : BitVec 32 := Scalar.addi v20 v21
  let c1_i32_343 : BitVec 32 := 1#32
  let v471 : BitVec 32 := Scalar.muli v22 c1_i32_343
  let v472 : BitVec 32 := Scalar.addi c0_i32_344 v471
  v472.toNat
def k0_off6 (d0 : Dev nD) : Fin 2 → Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c1024_i32_217 : BitVec 32 := 1024#32
  let v319 : BitVec 32 := Scalar.muli v9 c1024_i32_217
  let v320 : BitVec 32 := Scalar.addi c0_i32_218 v319
  let v491 : Index := Scalar.indexCast v320
  let c384_366 : Index := 384#32
  ![v491.toNat, 384]
def k0_off7 (d0 : Dev nD) : Fin 2 → Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c1024_i32_217 : BitVec 32 := 1024#32
  let v319 : BitVec 32 := Scalar.muli v9 c1024_i32_217
  let v320 : BitVec 32 := Scalar.addi c0_i32_218 v319
  let c1_i32_370 : BitVec 32 := 1#32
  let c4_i32_5 : BitVec 32 := 4#32
  let v10 : BitVec 32 := Scalar.divsi v2 c4_i32_5
  let v498 : BitVec 32 := Scalar.subi c1_i32_370 v10
  let c512_i32_371 : BitVec 32 := 512#32
  let v499 : BitVec 32 := Scalar.muli v498 c512_i32_371
  let v500 : BitVec 32 := Scalar.addi v320 v499
  let c384_i32_380 : BitVec 32 := 384#32
  ![v500.toNat, 384]
def k0_dev8 (d0 : Dev nD) : Nat :=
  let c0_i32_377 : BitVec 32 := 0#32
  let c1_i32_12 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let v23 : BitVec 32 := Scalar.subi c1_i32_12 v10
  let c4_i32_13 : BitVec 32 := 4#32
  let v24 : BitVec 32 := Scalar.muli v23 c4_i32_13
  let c2_i32_14 : BitVec 32 := 2#32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v25 : BitVec 32 := Scalar.muli c2_i32_14 v9
  let v26 : BitVec 32 := Scalar.addi v24 v25
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v27 : BitVec 32 := Scalar.xori v7 v9
  let v28 : BitVec 32 := Scalar.addi v26 v27
  let c1_i32_376 : BitVec 32 := 1#32
  let v501 : BitVec 32 := Scalar.muli v28 c1_i32_376
  let v502 : BitVec 32 := Scalar.addi c0_i32_377 v501
  v502.toNat
def k0_off8 (d0 : Dev nD) : Fin 2 → Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let c1024_i32_315 : BitVec 32 := 1024#32
  let v449 : BitVec 32 := Scalar.muli v10 c1024_i32_315
  let v450 : BitVec 32 := Scalar.addi c0_i32_316 v449
  let v521 : Index := Scalar.indexCast v450
  let c768_399 : Index := 768#32
  ![v521.toNat, 768]
def k0_off9 (d0 : Dev nD) : Fin 2 → Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let c1024_i32_315 : BitVec 32 := 1024#32
  let v449 : BitVec 32 := Scalar.muli v10 c1024_i32_315
  let v450 : BitVec 32 := Scalar.addi c0_i32_316 v449
  let c1_i32_403 : BitVec 32 := 1#32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v528 : BitVec 32 := Scalar.subi c1_i32_403 v7
  let c512_i32_404 : BitVec 32 := 512#32
  let v529 : BitVec 32 := Scalar.muli v528 c512_i32_404
  let v530 : BitVec 32 := Scalar.addi v450 v529
  let c768_i32_413 : BitVec 32 := 768#32
  ![v530.toNat, 768]
def k0_dev9 (d0 : Dev nD) : Nat :=
  let c0_i32_410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let c4_i32_7 : BitVec 32 := 4#32
  let v12 : BitVec 32 := Scalar.muli v10 c4_i32_7
  let c2_i32_8 : BitVec 32 := 2#32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v13 : BitVec 32 := Scalar.muli c2_i32_8 v9
  let v14 : BitVec 32 := Scalar.addi v12 v13
  let c1_i32_6 : BitVec 32 := 1#32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v11 : BitVec 32 := Scalar.subi c1_i32_6 v7
  let v15 : BitVec 32 := Scalar.xori v11 v9
  let v16 : BitVec 32 := Scalar.addi v14 v15
  let c1_i32_409 : BitVec 32 := 1#32
  let v531 : BitVec 32 := Scalar.muli v16 c1_i32_409
  let v532 : BitVec 32 := Scalar.addi c0_i32_410 v531
  v532.toNat
def k0_off10 (d0 : Dev nD) : Fin 2 → Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c1024_i32_119 : BitVec 32 := 1024#32
  let v189 : BitVec 32 := Scalar.muli v7 c1024_i32_119
  let v190 : BitVec 32 := Scalar.addi c0_i32_120 v189
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c512_i32_348 : BitVec 32 := 512#32
  let v479 : BitVec 32 := Scalar.muli v9 c512_i32_348
  let v480 : BitVec 32 := Scalar.addi v190 v479
  let v551 : Index := Scalar.indexCast v480
  let c0_432 : Index := 0#32
  ![v551.toNat, 0]
def k0_off11 (d0 : Dev nD) : Fin 2 → Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c1024_i32_119 : BitVec 32 := 1024#32
  let v189 : BitVec 32 := Scalar.muli v7 c1024_i32_119
  let v190 : BitVec 32 := Scalar.addi c0_i32_120 v189
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c512_i32_348 : BitVec 32 := 512#32
  let v479 : BitVec 32 := Scalar.muli v9 c512_i32_348
  let v480 : BitVec 32 := Scalar.addi v190 v479
  let c1_i32_435 : BitVec 32 := 1#32
  let c4_i32_5 : BitVec 32 := 4#32
  let v10 : BitVec 32 := Scalar.divsi v2 c4_i32_5
  let v558 : BitVec 32 := Scalar.subi c1_i32_435 v10
  let c256_i32 : BitVec 32 := 256#32
  let v559 : BitVec 32 := Scalar.muli v558 c256_i32
  let v560 : BitVec 32 := Scalar.addi v480 v559
  let c0_i32_443 : BitVec 32 := 0#32
  ![v560.toNat, 0]
def k0_dev10 (d0 : Dev nD) : Nat :=
  let c0_i32_441 : BitVec 32 := 0#32
  let c1_i32_12 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let v23 : BitVec 32 := Scalar.subi c1_i32_12 v10
  let c4_i32_13 : BitVec 32 := 4#32
  let v24 : BitVec 32 := Scalar.muli v23 c4_i32_13
  let c2_i32_14 : BitVec 32 := 2#32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v25 : BitVec 32 := Scalar.muli c2_i32_14 v9
  let v26 : BitVec 32 := Scalar.addi v24 v25
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v27 : BitVec 32 := Scalar.xori v7 v9
  let v28 : BitVec 32 := Scalar.addi v26 v27
  let c1_i32_440 : BitVec 32 := 1#32
  let v561 : BitVec 32 := Scalar.muli v28 c1_i32_440
  let v562 : BitVec 32 := Scalar.addi c0_i32_441 v561
  v562.toNat
def k0_off12 (d0 : Dev nD) : Fin 2 → Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c1024_i32_217 : BitVec 32 := 1024#32
  let v319 : BitVec 32 := Scalar.muli v9 c1024_i32_217
  let v320 : BitVec 32 := Scalar.addi c0_i32_218 v319
  let c4_i32_5 : BitVec 32 := 4#32
  let v10 : BitVec 32 := Scalar.divsi v2 c4_i32_5
  let c512_i32_381 : BitVec 32 := 512#32
  let v509 : BitVec 32 := Scalar.muli v10 c512_i32_381
  let v510 : BitVec 32 := Scalar.addi v320 v509
  let v581 : Index := Scalar.indexCast v510
  let c384_462 : Index := 384#32
  ![v581.toNat, 384]
def k0_off13 (d0 : Dev nD) : Fin 2 → Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c1024_i32_217 : BitVec 32 := 1024#32
  let v319 : BitVec 32 := Scalar.muli v9 c1024_i32_217
  let v320 : BitVec 32 := Scalar.addi c0_i32_218 v319
  let c4_i32_5 : BitVec 32 := 4#32
  let v10 : BitVec 32 := Scalar.divsi v2 c4_i32_5
  let c512_i32_381 : BitVec 32 := 512#32
  let v509 : BitVec 32 := Scalar.muli v10 c512_i32_381
  let v510 : BitVec 32 := Scalar.addi v320 v509
  let c1_i32_466 : BitVec 32 := 1#32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v588 : BitVec 32 := Scalar.subi c1_i32_466 v7
  let c256_i32_467 : BitVec 32 := 256#32
  let v589 : BitVec 32 := Scalar.muli v588 c256_i32_467
  let v590 : BitVec 32 := Scalar.addi v510 v589
  let c384_i32_476 : BitVec 32 := 384#32
  ![v590.toNat, 384]
def k0_dev11 (d0 : Dev nD) : Nat :=
  let c0_i32_473 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let c4_i32_7 : BitVec 32 := 4#32
  let v12 : BitVec 32 := Scalar.muli v10 c4_i32_7
  let c2_i32_8 : BitVec 32 := 2#32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v13 : BitVec 32 := Scalar.muli c2_i32_8 v9
  let v14 : BitVec 32 := Scalar.addi v12 v13
  let c1_i32_6 : BitVec 32 := 1#32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v11 : BitVec 32 := Scalar.subi c1_i32_6 v7
  let v15 : BitVec 32 := Scalar.xori v11 v9
  let v16 : BitVec 32 := Scalar.addi v14 v15
  let c1_i32_472 : BitVec 32 := 1#32
  let v591 : BitVec 32 := Scalar.muli v16 c1_i32_472
  let v592 : BitVec 32 := Scalar.addi c0_i32_473 v591
  v592.toNat
def k0_off14 (d0 : Dev nD) : Fin 2 → Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let c1024_i32_315 : BitVec 32 := 1024#32
  let v449 : BitVec 32 := Scalar.muli v10 c1024_i32_315
  let v450 : BitVec 32 := Scalar.addi c0_i32_316 v449
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c512_i32_414 : BitVec 32 := 512#32
  let v539 : BitVec 32 := Scalar.muli v7 c512_i32_414
  let v540 : BitVec 32 := Scalar.addi v450 v539
  let v611 : Index := Scalar.indexCast v540
  let c768_495 : Index := 768#32
  ![v611.toNat, 768]
def k0_off15 (d0 : Dev nD) : Fin 2 → Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let c1024_i32_315 : BitVec 32 := 1024#32
  let v449 : BitVec 32 := Scalar.muli v10 c1024_i32_315
  let v450 : BitVec 32 := Scalar.addi c0_i32_316 v449
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c512_i32_414 : BitVec 32 := 512#32
  let v539 : BitVec 32 := Scalar.muli v7 c512_i32_414
  let v540 : BitVec 32 := Scalar.addi v450 v539
  let c1_i32_499 : BitVec 32 := 1#32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v618 : BitVec 32 := Scalar.subi c1_i32_499 v9
  let c256_i32_500 : BitVec 32 := 256#32
  let v619 : BitVec 32 := Scalar.muli v618 c256_i32_500
  let v620 : BitVec 32 := Scalar.addi v540 v619
  let c768_i32_509 : BitVec 32 := 768#32
  ![v620.toNat, 768]
def k0_dev12 (d0 : Dev nD) : Nat :=
  let c0_i32_506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let c4_i32_10 : BitVec 32 := 4#32
  let v18 : BitVec 32 := Scalar.muli v10 c4_i32_10
  let c2_i32_11 : BitVec 32 := 2#32
  let c1_i32_9 : BitVec 32 := 1#32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v17 : BitVec 32 := Scalar.subi c1_i32_9 v9
  let v19 : BitVec 32 := Scalar.muli c2_i32_11 v17
  let v20 : BitVec 32 := Scalar.addi v18 v19
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v21 : BitVec 32 := Scalar.xori v7 v17
  let v22 : BitVec 32 := Scalar.addi v20 v21
  let c1_i32_505 : BitVec 32 := 1#32
  let v621 : BitVec 32 := Scalar.muli v22 c1_i32_505
  let v622 : BitVec 32 := Scalar.addi c0_i32_506 v621
  v622.toNat
def k0_off16 (d0 : Dev nD) : Fin 2 → Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c1024_i32_119 : BitVec 32 := 1024#32
  let v189 : BitVec 32 := Scalar.muli v7 c1024_i32_119
  let v190 : BitVec 32 := Scalar.addi c0_i32_120 v189
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c512_i32_348 : BitVec 32 := 512#32
  let v479 : BitVec 32 := Scalar.muli v9 c512_i32_348
  let v480 : BitVec 32 := Scalar.addi v190 v479
  let c4_i32_5 : BitVec 32 := 4#32
  let v10 : BitVec 32 := Scalar.divsi v2 c4_i32_5
  let c256_i32_444 : BitVec 32 := 256#32
  let v569 : BitVec 32 := Scalar.muli v10 c256_i32_444
  let v570 : BitVec 32 := Scalar.addi v480 v569
  let v641 : Index := Scalar.indexCast v570
  let c0_528 : Index := 0#32
  ![v641.toNat, 0]
def k0_off17 (d0 : Dev nD) : Fin 2 → Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c1024_i32_119 : BitVec 32 := 1024#32
  let v189 : BitVec 32 := Scalar.muli v7 c1024_i32_119
  let v190 : BitVec 32 := Scalar.addi c0_i32_120 v189
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c512_i32_348 : BitVec 32 := 512#32
  let v479 : BitVec 32 := Scalar.muli v9 c512_i32_348
  let v480 : BitVec 32 := Scalar.addi v190 v479
  let c4_i32_5 : BitVec 32 := 4#32
  let v10 : BitVec 32 := Scalar.divsi v2 c4_i32_5
  let c256_i32_444 : BitVec 32 := 256#32
  let v569 : BitVec 32 := Scalar.muli v10 c256_i32_444
  let v570 : BitVec 32 := Scalar.addi v480 v569
  let v651 : Index := Scalar.indexCast v570
  let c0_532 : Index := 0#32
  ![v651.toNat, 0]
def k0_off18 (d0 : Dev nD) : Fin 2 → Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c1024_i32_119 : BitVec 32 := 1024#32
  let v189 : BitVec 32 := Scalar.muli v7 c1024_i32_119
  let v190 : BitVec 32 := Scalar.addi c0_i32_120 v189
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c512_i32_348 : BitVec 32 := 512#32
  let v479 : BitVec 32 := Scalar.muli v9 c512_i32_348
  let v480 : BitVec 32 := Scalar.addi v190 v479
  let c4_i32_5 : BitVec 32 := 4#32
  let v10 : BitVec 32 := Scalar.divsi v2 c4_i32_5
  let c256_i32_444 : BitVec 32 := 256#32
  let v569 : BitVec 32 := Scalar.muli v10 c256_i32_444
  let v570 : BitVec 32 := Scalar.addi v480 v569
  let c0_i32_543 : BitVec 32 := 0#32
  ![v570.toNat, 0]
def k0_dev13 (d0 : Dev nD) : Nat :=
  let c0_i32_542 : BitVec 32 := 0#32
  let c1_i32_12 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let v23 : BitVec 32 := Scalar.subi c1_i32_12 v10
  let c4_i32_13 : BitVec 32 := 4#32
  let v24 : BitVec 32 := Scalar.muli v23 c4_i32_13
  let c2_i32_14 : BitVec 32 := 2#32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v25 : BitVec 32 := Scalar.muli c2_i32_14 v9
  let v26 : BitVec 32 := Scalar.addi v24 v25
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v27 : BitVec 32 := Scalar.xori v7 v9
  let v28 : BitVec 32 := Scalar.addi v26 v27
  let c1_i32_541 : BitVec 32 := 1#32
  let v660 : BitVec 32 := Scalar.muli v28 c1_i32_541
  let v661 : BitVec 32 := Scalar.addi c0_i32_542 v660
  v661.toNat
def k0_off19 (d0 : Dev nD) : Fin 2 → Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c1024_i32_217 : BitVec 32 := 1024#32
  let v319 : BitVec 32 := Scalar.muli v9 c1024_i32_217
  let v320 : BitVec 32 := Scalar.addi c0_i32_218 v319
  let c4_i32_5 : BitVec 32 := 4#32
  let v10 : BitVec 32 := Scalar.divsi v2 c4_i32_5
  let c512_i32_381 : BitVec 32 := 512#32
  let v509 : BitVec 32 := Scalar.muli v10 c512_i32_381
  let v510 : BitVec 32 := Scalar.addi v320 v509
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c256_i32_477 : BitVec 32 := 256#32
  let v599 : BitVec 32 := Scalar.muli v7 c256_i32_477
  let v600 : BitVec 32 := Scalar.addi v510 v599
  let v680 : Index := Scalar.indexCast v600
  let c384_563 : Index := 384#32
  ![v680.toNat, 384]
def k0_off20 (d0 : Dev nD) : Fin 2 → Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c1024_i32_217 : BitVec 32 := 1024#32
  let v319 : BitVec 32 := Scalar.muli v9 c1024_i32_217
  let v320 : BitVec 32 := Scalar.addi c0_i32_218 v319
  let c4_i32_5 : BitVec 32 := 4#32
  let v10 : BitVec 32 := Scalar.divsi v2 c4_i32_5
  let c512_i32_381 : BitVec 32 := 512#32
  let v509 : BitVec 32 := Scalar.muli v10 c512_i32_381
  let v510 : BitVec 32 := Scalar.addi v320 v509
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c256_i32_477 : BitVec 32 := 256#32
  let v599 : BitVec 32 := Scalar.muli v7 c256_i32_477
  let v600 : BitVec 32 := Scalar.addi v510 v599
  let v690 : Index := Scalar.indexCast v600
  let c0_568 : Index := 0#32
  ![v690.toNat, 0]
def k0_off21 (d0 : Dev nD) : Fin 2 → Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c1024_i32_217 : BitVec 32 := 1024#32
  let v319 : BitVec 32 := Scalar.muli v9 c1024_i32_217
  let v320 : BitVec 32 := Scalar.addi c0_i32_218 v319
  let c4_i32_5 : BitVec 32 := 4#32
  let v10 : BitVec 32 := Scalar.divsi v2 c4_i32_5
  let c512_i32_381 : BitVec 32 := 512#32
  let v509 : BitVec 32 := Scalar.muli v10 c512_i32_381
  let v510 : BitVec 32 := Scalar.addi v320 v509
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c256_i32_477 : BitVec 32 := 256#32
  let v599 : BitVec 32 := Scalar.muli v7 c256_i32_477
  let v600 : BitVec 32 := Scalar.addi v510 v599
  let c384_i32_579 : BitVec 32 := 384#32
  ![v600.toNat, 384]
def k0_dev14 (d0 : Dev nD) : Nat :=
  let c0_i32_578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let c4_i32_7 : BitVec 32 := 4#32
  let v12 : BitVec 32 := Scalar.muli v10 c4_i32_7
  let c2_i32_8 : BitVec 32 := 2#32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v13 : BitVec 32 := Scalar.muli c2_i32_8 v9
  let v14 : BitVec 32 := Scalar.addi v12 v13
  let c1_i32_6 : BitVec 32 := 1#32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v11 : BitVec 32 := Scalar.subi c1_i32_6 v7
  let v15 : BitVec 32 := Scalar.xori v11 v9
  let v16 : BitVec 32 := Scalar.addi v14 v15
  let c1_i32_577 : BitVec 32 := 1#32
  let v699 : BitVec 32 := Scalar.muli v16 c1_i32_577
  let v700 : BitVec 32 := Scalar.addi c0_i32_578 v699
  v700.toNat
def k0_off22 (d0 : Dev nD) : Fin 2 → Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let c1024_i32_315 : BitVec 32 := 1024#32
  let v449 : BitVec 32 := Scalar.muli v10 c1024_i32_315
  let v450 : BitVec 32 := Scalar.addi c0_i32_316 v449
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c512_i32_414 : BitVec 32 := 512#32
  let v539 : BitVec 32 := Scalar.muli v7 c512_i32_414
  let v540 : BitVec 32 := Scalar.addi v450 v539
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c256_i32_510 : BitVec 32 := 256#32
  let v629 : BitVec 32 := Scalar.muli v9 c256_i32_510
  let v630 : BitVec 32 := Scalar.addi v540 v629
  let v719 : Index := Scalar.indexCast v630
  let c768_599 : Index := 768#32
  ![v719.toNat, 768]
def k0_off23 (d0 : Dev nD) : Fin 2 → Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let c1024_i32_315 : BitVec 32 := 1024#32
  let v449 : BitVec 32 := Scalar.muli v10 c1024_i32_315
  let v450 : BitVec 32 := Scalar.addi c0_i32_316 v449
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c512_i32_414 : BitVec 32 := 512#32
  let v539 : BitVec 32 := Scalar.muli v7 c512_i32_414
  let v540 : BitVec 32 := Scalar.addi v450 v539
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c256_i32_510 : BitVec 32 := 256#32
  let v629 : BitVec 32 := Scalar.muli v9 c256_i32_510
  let v630 : BitVec 32 := Scalar.addi v540 v629
  let v729 : Index := Scalar.indexCast v630
  let c0_604 : Index := 0#32
  ![v729.toNat, 0]
def k0_off24 (d0 : Dev nD) : Fin 2 → Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let c1024_i32_315 : BitVec 32 := 1024#32
  let v449 : BitVec 32 := Scalar.muli v10 c1024_i32_315
  let v450 : BitVec 32 := Scalar.addi c0_i32_316 v449
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c512_i32_414 : BitVec 32 := 512#32
  let v539 : BitVec 32 := Scalar.muli v7 c512_i32_414
  let v540 : BitVec 32 := Scalar.addi v450 v539
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c256_i32_510 : BitVec 32 := 256#32
  let v629 : BitVec 32 := Scalar.muli v9 c256_i32_510
  let v630 : BitVec 32 := Scalar.addi v540 v629
  let c768_i32_615 : BitVec 32 := 768#32
  ![v630.toNat, 768]
def k0_dev15 (d0 : Dev nD) : Nat :=
  let c0_i32_614 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let c4_i32_10 : BitVec 32 := 4#32
  let v18 : BitVec 32 := Scalar.muli v10 c4_i32_10
  let c2_i32_11 : BitVec 32 := 2#32
  let c1_i32_9 : BitVec 32 := 1#32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v17 : BitVec 32 := Scalar.subi c1_i32_9 v9
  let v19 : BitVec 32 := Scalar.muli c2_i32_11 v17
  let v20 : BitVec 32 := Scalar.addi v18 v19
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v21 : BitVec 32 := Scalar.xori v7 v17
  let v22 : BitVec 32 := Scalar.addi v20 v21
  let c1_i32_613 : BitVec 32 := 1#32
  let v738 : BitVec 32 := Scalar.muli v22 c1_i32_613
  let v739 : BitVec 32 := Scalar.addi c0_i32_614 v738
  v739.toNat
def k0_off25 (d0 : Dev nD) : Fin 2 → Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c1024_i32_119 : BitVec 32 := 1024#32
  let v189 : BitVec 32 := Scalar.muli v7 c1024_i32_119
  let v190 : BitVec 32 := Scalar.addi c0_i32_120 v189
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c512_i32_348 : BitVec 32 := 512#32
  let v479 : BitVec 32 := Scalar.muli v9 c512_i32_348
  let v480 : BitVec 32 := Scalar.addi v190 v479
  let c4_i32_5 : BitVec 32 := 4#32
  let v10 : BitVec 32 := Scalar.divsi v2 c4_i32_5
  let c256_i32_444 : BitVec 32 := 256#32
  let v569 : BitVec 32 := Scalar.muli v10 c256_i32_444
  let v570 : BitVec 32 := Scalar.addi v480 v569
  let c256_i32_545 : BitVec 32 := 256#32
  let v668 : BitVec 32 := Scalar.muli v10 c256_i32_545
  let v669 : BitVec 32 := Scalar.subi v570 v668
  let c0_i32_639 : BitVec 32 := 0#32
  ![v669.toNat, 0]
def k0_dev16 (d0 : Dev nD) : Nat :=
  let c0_i32_638 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let c4_i32_10 : BitVec 32 := 4#32
  let v18 : BitVec 32 := Scalar.muli v10 c4_i32_10
  let c2_i32_11 : BitVec 32 := 2#32
  let c1_i32_9 : BitVec 32 := 1#32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v17 : BitVec 32 := Scalar.subi c1_i32_9 v9
  let v19 : BitVec 32 := Scalar.muli c2_i32_11 v17
  let v20 : BitVec 32 := Scalar.addi v18 v19
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v21 : BitVec 32 := Scalar.xori v7 v17
  let v22 : BitVec 32 := Scalar.addi v20 v21
  let c1_i32_637 : BitVec 32 := 1#32
  let v758 : BitVec 32 := Scalar.muli v22 c1_i32_637
  let v759 : BitVec 32 := Scalar.addi c0_i32_638 v758
  v759.toNat
def k0_off26 (d0 : Dev nD) : Fin 2 → Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c1024_i32_217 : BitVec 32 := 1024#32
  let v319 : BitVec 32 := Scalar.muli v9 c1024_i32_217
  let v320 : BitVec 32 := Scalar.addi c0_i32_218 v319
  let c4_i32_5 : BitVec 32 := 4#32
  let v10 : BitVec 32 := Scalar.divsi v2 c4_i32_5
  let c512_i32_381 : BitVec 32 := 512#32
  let v509 : BitVec 32 := Scalar.muli v10 c512_i32_381
  let v510 : BitVec 32 := Scalar.addi v320 v509
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c256_i32_477 : BitVec 32 := 256#32
  let v599 : BitVec 32 := Scalar.muli v7 c256_i32_477
  let v600 : BitVec 32 := Scalar.addi v510 v599
  let c256_i32_581 : BitVec 32 := 256#32
  let v707 : BitVec 32 := Scalar.muli v7 c256_i32_581
  let v708 : BitVec 32 := Scalar.subi v600 v707
  let c384_i32_663 : BitVec 32 := 384#32
  ![v708.toNat, 384]
def k0_dev17 (d0 : Dev nD) : Nat :=
  let c0_i32_662 : BitVec 32 := 0#32
  let c1_i32_12 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let v23 : BitVec 32 := Scalar.subi c1_i32_12 v10
  let c4_i32_13 : BitVec 32 := 4#32
  let v24 : BitVec 32 := Scalar.muli v23 c4_i32_13
  let c2_i32_14 : BitVec 32 := 2#32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v25 : BitVec 32 := Scalar.muli c2_i32_14 v9
  let v26 : BitVec 32 := Scalar.addi v24 v25
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v27 : BitVec 32 := Scalar.xori v7 v9
  let v28 : BitVec 32 := Scalar.addi v26 v27
  let c1_i32_661 : BitVec 32 := 1#32
  let v778 : BitVec 32 := Scalar.muli v28 c1_i32_661
  let v779 : BitVec 32 := Scalar.addi c0_i32_662 v778
  v779.toNat
def k0_off27 (d0 : Dev nD) : Fin 2 → Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let c1024_i32_315 : BitVec 32 := 1024#32
  let v449 : BitVec 32 := Scalar.muli v10 c1024_i32_315
  let v450 : BitVec 32 := Scalar.addi c0_i32_316 v449
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c512_i32_414 : BitVec 32 := 512#32
  let v539 : BitVec 32 := Scalar.muli v7 c512_i32_414
  let v540 : BitVec 32 := Scalar.addi v450 v539
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c256_i32_510 : BitVec 32 := 256#32
  let v629 : BitVec 32 := Scalar.muli v9 c256_i32_510
  let v630 : BitVec 32 := Scalar.addi v540 v629
  let c256_i32_617 : BitVec 32 := 256#32
  let v746 : BitVec 32 := Scalar.muli v9 c256_i32_617
  let v747 : BitVec 32 := Scalar.subi v630 v746
  let c768_i32_687 : BitVec 32 := 768#32
  ![v747.toNat, 768]
def k0_dev18 (d0 : Dev nD) : Nat :=
  let c0_i32_686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let c4_i32_7 : BitVec 32 := 4#32
  let v12 : BitVec 32 := Scalar.muli v10 c4_i32_7
  let c2_i32_8 : BitVec 32 := 2#32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v13 : BitVec 32 := Scalar.muli c2_i32_8 v9
  let v14 : BitVec 32 := Scalar.addi v12 v13
  let c1_i32_6 : BitVec 32 := 1#32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v11 : BitVec 32 := Scalar.subi c1_i32_6 v7
  let v15 : BitVec 32 := Scalar.xori v11 v9
  let v16 : BitVec 32 := Scalar.addi v14 v15
  let c1_i32_685 : BitVec 32 := 1#32
  let v798 : BitVec 32 := Scalar.muli v16 c1_i32_685
  let v799 : BitVec 32 := Scalar.addi c0_i32_686 v798
  v799.toNat
def k0_off28 (d0 : Dev nD) : Fin 2 → Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c1024_i32_119 : BitVec 32 := 1024#32
  let v189 : BitVec 32 := Scalar.muli v7 c1024_i32_119
  let v190 : BitVec 32 := Scalar.addi c0_i32_120 v189
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c512_i32_348 : BitVec 32 := 512#32
  let v479 : BitVec 32 := Scalar.muli v9 c512_i32_348
  let v480 : BitVec 32 := Scalar.addi v190 v479
  let c4_i32_5 : BitVec 32 := 4#32
  let v10 : BitVec 32 := Scalar.divsi v2 c4_i32_5
  let c256_i32_444 : BitVec 32 := 256#32
  let v569 : BitVec 32 := Scalar.muli v10 c256_i32_444
  let v570 : BitVec 32 := Scalar.addi v480 v569
  let c256_i32_545 : BitVec 32 := 256#32
  let v668 : BitVec 32 := Scalar.muli v10 c256_i32_545
  let v669 : BitVec 32 := Scalar.subi v570 v668
  let c512_i32_641 : BitVec 32 := 512#32
  let v766 : BitVec 32 := Scalar.muli v9 c512_i32_641
  let v767 : BitVec 32 := Scalar.subi v669 v766
  let c0_i32_711 : BitVec 32 := 0#32
  ![v767.toNat, 0]
def k0_dev19 (d0 : Dev nD) : Nat :=
  let c0_i32_710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let c4_i32_7 : BitVec 32 := 4#32
  let v12 : BitVec 32 := Scalar.muli v10 c4_i32_7
  let c2_i32_8 : BitVec 32 := 2#32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v13 : BitVec 32 := Scalar.muli c2_i32_8 v9
  let v14 : BitVec 32 := Scalar.addi v12 v13
  let c1_i32_6 : BitVec 32 := 1#32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v11 : BitVec 32 := Scalar.subi c1_i32_6 v7
  let v15 : BitVec 32 := Scalar.xori v11 v9
  let v16 : BitVec 32 := Scalar.addi v14 v15
  let c1_i32_709 : BitVec 32 := 1#32
  let v818 : BitVec 32 := Scalar.muli v16 c1_i32_709
  let v819 : BitVec 32 := Scalar.addi c0_i32_710 v818
  v819.toNat
def k0_off29 (d0 : Dev nD) : Fin 2 → Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c1024_i32_217 : BitVec 32 := 1024#32
  let v319 : BitVec 32 := Scalar.muli v9 c1024_i32_217
  let v320 : BitVec 32 := Scalar.addi c0_i32_218 v319
  let c4_i32_5 : BitVec 32 := 4#32
  let v10 : BitVec 32 := Scalar.divsi v2 c4_i32_5
  let c512_i32_381 : BitVec 32 := 512#32
  let v509 : BitVec 32 := Scalar.muli v10 c512_i32_381
  let v510 : BitVec 32 := Scalar.addi v320 v509
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c256_i32_477 : BitVec 32 := 256#32
  let v599 : BitVec 32 := Scalar.muli v7 c256_i32_477
  let v600 : BitVec 32 := Scalar.addi v510 v599
  let c256_i32_581 : BitVec 32 := 256#32
  let v707 : BitVec 32 := Scalar.muli v7 c256_i32_581
  let v708 : BitVec 32 := Scalar.subi v600 v707
  let c512_i32_665 : BitVec 32 := 512#32
  let v786 : BitVec 32 := Scalar.muli v10 c512_i32_665
  let v787 : BitVec 32 := Scalar.subi v708 v786
  let c384_i32_734 : BitVec 32 := 384#32
  ![v787.toNat, 384]
def k0_dev20 (d0 : Dev nD) : Nat :=
  let c0_i32_733 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let c4_i32_10 : BitVec 32 := 4#32
  let v18 : BitVec 32 := Scalar.muli v10 c4_i32_10
  let c2_i32_11 : BitVec 32 := 2#32
  let c1_i32_9 : BitVec 32 := 1#32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v17 : BitVec 32 := Scalar.subi c1_i32_9 v9
  let v19 : BitVec 32 := Scalar.muli c2_i32_11 v17
  let v20 : BitVec 32 := Scalar.addi v18 v19
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v21 : BitVec 32 := Scalar.xori v7 v17
  let v22 : BitVec 32 := Scalar.addi v20 v21
  let c1_i32_732 : BitVec 32 := 1#32
  let v836 : BitVec 32 := Scalar.muli v22 c1_i32_732
  let v837 : BitVec 32 := Scalar.addi c0_i32_733 v836
  v837.toNat
def k0_off30 (d0 : Dev nD) : Fin 2 → Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let c1024_i32_315 : BitVec 32 := 1024#32
  let v449 : BitVec 32 := Scalar.muli v10 c1024_i32_315
  let v450 : BitVec 32 := Scalar.addi c0_i32_316 v449
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c512_i32_414 : BitVec 32 := 512#32
  let v539 : BitVec 32 := Scalar.muli v7 c512_i32_414
  let v540 : BitVec 32 := Scalar.addi v450 v539
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c256_i32_510 : BitVec 32 := 256#32
  let v629 : BitVec 32 := Scalar.muli v9 c256_i32_510
  let v630 : BitVec 32 := Scalar.addi v540 v629
  let c256_i32_617 : BitVec 32 := 256#32
  let v746 : BitVec 32 := Scalar.muli v9 c256_i32_617
  let v747 : BitVec 32 := Scalar.subi v630 v746
  let c512_i32_689 : BitVec 32 := 512#32
  let v806 : BitVec 32 := Scalar.muli v7 c512_i32_689
  let v807 : BitVec 32 := Scalar.subi v747 v806
  let c768_i32_757 : BitVec 32 := 768#32
  ![v807.toNat, 768]
def k0_dev21 (d0 : Dev nD) : Nat :=
  let c0_i32_756 : BitVec 32 := 0#32
  let c1_i32_12 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 32 := Scalar.divsi v2 c4_i32_5
  let v23 : BitVec 32 := Scalar.subi c1_i32_12 v10
  let c4_i32_13 : BitVec 32 := 4#32
  let v24 : BitVec 32 := Scalar.muli v23 c4_i32_13
  let c2_i32_14 : BitVec 32 := 2#32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v25 : BitVec 32 := Scalar.muli c2_i32_14 v9
  let v26 : BitVec 32 := Scalar.addi v24 v25
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v27 : BitVec 32 := Scalar.xori v7 v9
  let v28 : BitVec 32 := Scalar.addi v26 v27
  let c1_i32_755 : BitVec 32 := 1#32
  let v854 : BitVec 32 := Scalar.muli v28 c1_i32_755
  let v855 : BitVec 32 := Scalar.addi c0_i32_756 v854
  v855.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S512x1024 : Shape := ⟨2, ![512, 1024]⟩
abbrev S2048x64 : Shape := ⟨2, ![2048, 64]⟩
abbrev S_ : Shape := ⟨0, ![]⟩
abbrev S2048 : Shape := ⟨1, ![2048]⟩
abbrev S2048x1024 : Shape := ⟨2, ![2048, 1024]⟩
abbrev S2048x64x1024 : Shape := ⟨3, ![2048, 64, 1024]⟩
abbrev S2048x1x1 : Shape := ⟨3, ![2048, 1, 1]⟩
abbrev S1 : Shape := ⟨1, ![1]⟩
abbrev S1x1x1 : Shape := ⟨3, ![1, 1, 1]⟩
abbrev S2048x1x1024 : Shape := ⟨3, ![2048, 1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x1, .i32⟩
  | .hbm, ⟨3, _⟩ => ⟨S64x512x1024, .f32⟩
  | .hbm, ⟨4, _⟩ => ⟨S512x1024, .f32⟩
  | .hbm, ⟨5, _⟩ => ⟨S2048x64, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x64, .f32⟩
  | .hbm, ⟨10, _⟩ => ⟨S2048x64, .f32⟩
  | .hbm, ⟨11, _⟩ => ⟨S2048x64, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x64, .f32⟩
  | .hbm, ⟨16, _⟩ => ⟨S2048x64, .f32⟩
  | .hbm, ⟨17, _⟩ => ⟨S2048x1024, .f32⟩
  | .hbm, ⟨18, _⟩ => ⟨S2048x64x1024, .f32⟩
  | .hbm, ⟨19, _⟩ => ⟨S_, .i32⟩
  | .hbm, ⟨20, _⟩ => ⟨S2048x1, .i32⟩
  | .hbm, ⟨21, _⟩ => ⟨S2048x1, .i1⟩
  | .hbm, ⟨22, _⟩ => ⟨S_, .i32⟩
  | .hbm, ⟨23, _⟩ => ⟨S2048x1, .i32⟩
  | .hbm, ⟨24, _⟩ => ⟨S2048x1, .i32⟩
  | .hbm, ⟨25, _⟩ => ⟨S2048x1, .i32⟩
  | .hbm, ⟨26, _⟩ => ⟨S2048x1x1, .i32⟩
  | .hbm, ⟨27, _⟩ => ⟨S1, .i32⟩
  | .hbm, ⟨28, _⟩ => ⟨S_, .i32⟩
  | .hbm, ⟨29, _⟩ => ⟨S2048x1x1, .i32⟩
  | .hbm, ⟨30, _⟩ => ⟨S2048x1x1, .i1⟩
  | .hbm, ⟨31, _⟩ => ⟨S1x1x1, .i32⟩
  | .hbm, ⟨32, _⟩ => ⟨S2048x1x1, .i32⟩
  | .hbm, ⟨33, _⟩ => ⟨S2048x1x1, .i1⟩
  | .hbm, ⟨34, _⟩ => ⟨S2048x1x1, .i1⟩
  | .hbm, ⟨35, _⟩ => ⟨S_, .i1⟩
  | .hbm, ⟨36, _⟩ => ⟨S2048x1, .i1⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1x1, .i32⟩
  | .hbm, ⟨42, _⟩ => ⟨S_, .i32⟩
  | .hbm, ⟨43, _⟩ => ⟨S2048x1x1, .i32⟩
  | .hbm, ⟨44, _⟩ => ⟨S2048x1x1, .i1⟩
  | .hbm, ⟨45, _⟩ => ⟨S_, .i32⟩
  | .hbm, ⟨46, _⟩ => ⟨S2048x1x1, .i32⟩
  | .hbm, ⟨47, _⟩ => ⟨S2048x1x1, .i32⟩
  | .hbm, ⟨48, _⟩ => ⟨S2048x1x1, .i32⟩
  | .hbm, ⟨49, _⟩ => ⟨S1, .i32⟩
  | .hbm, ⟨50, _⟩ => ⟨S_, .i32⟩
  | .hbm, ⟨51, _⟩ => ⟨S2048x1x1, .i32⟩
  | .hbm, ⟨52, _⟩ => ⟨S2048x1x1, .i1⟩
  | .hbm, ⟨53, _⟩ => ⟨S1x1x1, .i32⟩
  | .hbm, ⟨54, _⟩ => ⟨S2048x1x1, .i32⟩
  | .hbm, ⟨55, _⟩ => ⟨S2048x1x1, .i1⟩
  | .hbm, ⟨56, _⟩ => ⟨S2048x1x1, .i1⟩
  | .hbm, ⟨57, _⟩ => ⟨S_, .i1⟩
  | .hbm, ⟨58, _⟩ => ⟨S2048x1, .i1⟩
  | .hbm, ⟨59, _⟩ => ⟨S2048x1x1024, .f32⟩
  | .hbm, ⟨60, _⟩ => ⟨S2048x1x1024, .i1⟩
  | .hbm, ⟨61, _⟩ => ⟨S_, .f32⟩
  | .hbm, ⟨62, _⟩ => ⟨S2048x1x1024, .f32⟩
  | .hbm, ⟨63, _⟩ => ⟨S2048x1x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v12 : Ref sig .tc := ⟨.hbm, 40, rfl⟩
abbrev main_v13 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_c_2 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_c_3 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_cst : Ref sig .tc := ⟨.hbm, 61, rfl⟩
abbrev main_call1_v14 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩

abbrev nD : Nat := 1
abbrev τ : Topo := Topo.v7x

variable {F : FTy → Type} [FloatOps F]
-- ==== Proof.Cube.lean ====
/-
The cube of eight devices, and the rectangles of rows and columns the exchange moves.

A device is a corner of a cube with three bits; `nbr a c` is the corner across axis `a`.  The 1024 columns are in
three parts, part `p` starting at column `colAt p` and `colW p` wide.  Part `p` meets the axes in the order
`p, p+1, p+2`: at step `k` a device keeps the half of its rows its bit on axis `p+k` names (`keepAt p (k+1)`), and
sends the other half (`sendAt p k`) to its neighbour across that axis.
-/
module

public import proofs.«01_k».proof.Proof.Gen.KernelIdeal
public import proofs.«01_k».proof.Proof.Gen.KernelIdeal.Skeleton
public import Idealize.ShloMosaic.Lib.Pipeline.Launch
public import Idealize.ShloMosaic.Lib.Pipeline.Kit
public import Idealize.ShloMosaic.Lib.Tactic

@[expose] public section

noncomputable section

namespace Cert.CubeProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Corners and axes -/

/-- The bit of device `c` on axis `a`. -/
def bit (a : Fin 3) (c : Dev nD) : ℕ :=
  if a = 0 then (if c.val % 4 = 1 ∨ c.val % 4 = 2 then 1 else 0) else if a = 1 then c.val % 4 / 2 else c.val / 4

set_option backward.proofsInPublic true in
/-- The neighbour of device `c` across axis `a`. -/
def nbr (a : Fin 3) (c : Dev nD) : Dev nD :=
  ⟨(if a = 0 then c.val ^^^ 1 else if a = 1 then c.val ^^^ 3 else c.val ^^^ 4) % 8, Nat.mod_lt _ (by decide)⟩

theorem nbr_nbr (a : Fin 3) (c : Dev nD) : nbr a (nbr a c) = c := by revert a c; decide

/-- Crossing an axis is a bijection of the devices. -/
def cross (a : Fin 3) : Dev nD ≃ Dev nD := ⟨nbr a, nbr a, nbr_nbr a, nbr_nbr a⟩

/-- The axis step `s` of part `p` crosses: `p, p+1, p+2` while halving, then back again while gathering. -/
def axisAt (s : ℕ) (p : Fin 3) : Fin 3 := ⟨(p.val + if s < 3 then s else 5 - s) % 3, Nat.mod_lt _ (by decide)⟩

/-- A transfer: step `s` (0, 1, 2 halving; 3, 4, 5 gathering) of column part `p`; they start in the order of `num`. -/
abbrev Xf : Type := Fin 6 × Fin 3
def num (t : Xf) : ℕ := 3 * t.1.val + t.2.val
theorem num_inj {t t' : Xf} (h : num t = num t') : t = t' := by
  unfold num at h
  have h1 := t.2.isLt; have h2 := t'.2.isLt
  exact Prod.ext (Fin.ext (by omega)) (Fin.ext (by omega))
theorem num_lt (t : Xf) : num t < 18 := by unfold num; have := t.1.isLt; have := t.2.isLt; omega

/-- The device transfer `t` of device `c` goes to, and the one that reaches it comes from. -/
def peer (t : Xf) (c : Dev nD) : Dev nD := nbr (axisAt t.1 t.2) c
theorem peer_peer (t : Xf) (c : Dev nD) : peer t (peer t c) = c := nbr_nbr _ _

/-! ## Rows and columns -/

/-- First column and width of part `p`. -/
def colAt (p : Fin 3) : ℕ := if p = 0 then 0 else if p = 1 then 384 else 768
def colW (p : Fin 3) : ℕ := if p = 2 then 256 else 384

/-- Rows kept after `k` halvings of part `p`: how many, and the first. -/
def rowsAt (k : ℕ) : ℕ := 2048 / 2 ^ k
def keepAt (p : Fin 3) : ℕ → Dev nD → ℕ
  | 0, _ => 0
  | k + 1, c => keepAt p k c + bit (axisAt k p) c * rowsAt (k + 1)
/-- The first of the rows sent at halving `k` of part `p`. -/
def sendAt (p : Fin 3) (k : ℕ) (c : Dev nD) : ℕ := keepAt p k c + (1 - bit (axisAt k p) c) * rowsAt (k + 1)
/-- The first row of step `k`'s landing region in the scratch buffer. -/
def stageAt (k : ℕ) : ℕ := if k = 0 then 0 else if k = 1 then 1024 else 1536

/-- Rows `[r, r + h)`, columns `[o, o + w)` of an array of `n` rows and 1024 columns. -/
def blk {n : ℕ} (r h o w : ℕ) : Finset (⟨2, ![n, 1024]⟩ : Shape).Idx :=
  Finset.univ.filter fun i => (r ≤ (i 0).val ∧ (i 0).val < r + h) ∧ (o ≤ (i 1).val ∧ (i 1).val < o + w)

theorem mem_blk {n r h o w : ℕ} {i : (⟨2, ![n, 1024]⟩ : Shape).Idx} :
    Iff (i ∈ blk r h o w) ((r ≤ (i 0).val ∧ (i 0).val < r + h) ∧ (o ≤ (i 1).val ∧ (i 1).val < o + w)) := by
  unfold blk; rw [Finset.mem_filter]; exact ⟨fun h => h.2, fun h => ⟨Finset.mem_univ _, h⟩⟩

theorem row_lt {n : ℕ} (i : (⟨2, ![n, 1024]⟩ : Shape).Idx) : (i 0).val < n := (i 0).isLt
theorem col_lt {n : ℕ} (i : (⟨2, ![n, 1024]⟩ : Shape).Idx) : (i 1).val < 1024 := (i 1).isLt

/-- The indices of a unit-stride rectangle. -/
theorem unit_set {n r h o w : ℕ} (off size : Fin 2 → ℕ) (inb) (hoff : off = ![r, o]) (hsize : size = ![h, w]) :
    (Rect.unit (s := ⟨2, ![n, 1024]⟩) off size inb).set = blk r h o w := by
  subst hoff; subst hsize
  ext i
  rw [Rect.mem_set_unit, mem_blk]
  exact ⟨fun H => ⟨H 0, H 1⟩, fun H a => by match a with | 0 => exact H.1 | 1 => exact H.2⟩

theorem blk_all {n : ℕ} : (blk 0 n 0 1024 : Finset (⟨2, ![n, 1024]⟩ : Shape).Idx) = Finset.univ := by
  ext i; rw [mem_blk]; have := row_lt i; have := col_lt i; simp only [Finset.mem_univ, iff_true]; omega

/-- Two blocks of rows side by side make the block of both. -/
theorem blk_rows {n r h h' o w : ℕ} : (blk r (h + h') o w : Finset (⟨2, ![n, 1024]⟩ : Shape).Idx) = blk r h o w ∪ blk (r + h) h' o w := by
  ext i; rw [Finset.mem_union, mem_blk, mem_blk, mem_blk]; omega
theorem blk_rows_disj {n r h h' o w : ℕ} : Disjoint (blk r h o w : Finset (⟨2, ![n, 1024]⟩ : Shape).Idx) (blk (r + h) h' o w) := by
  rw [Finset.disjoint_left]; intro i; rw [mem_blk, mem_blk]; omega
theorem blk_cols {n r h o w w' : ℕ} : (blk r h o (w + w') : Finset (⟨2, ![n, 1024]⟩ : Shape).Idx) = blk r h o w ∪ blk r h (o + w) w' := by
  ext i; rw [Finset.mem_union, mem_blk, mem_blk, mem_blk]; omega
theorem blk_cols_disj {n r h o w w' : ℕ} : Disjoint (blk r h o w : Finset (⟨2, ![n, 1024]⟩ : Shape).Idx) (blk r h (o + w) w') := by
  rw [Finset.disjoint_left]; intro i; rw [mem_blk, mem_blk]; omega

/-! ## The halves -/

theorem bit_cases (a : Fin 3) (c : Dev nD) : bit a c = 0 ∨ bit a c = 1 := by revert a c; decide
theorem bit_nbr (a : Fin 3) (c : Dev nD) : bit a (nbr a c) = 1 - bit a c := by revert a c; decide

/-- The neighbour a halving crosses to keeps the rows sent to it, and sends the rows kept. -/
theorem keepAt_nbr (p : Fin 3) (k : Fin 3) (c : Dev nD) : keepAt p (k + 1) (nbr (axisAt k p) c) = sendAt p k c := by
  revert p k c; decide +kernel
theorem sendAt_nbr (p : Fin 3) (k : Fin 3) (c : Dev nD) : sendAt p k (nbr (axisAt k p) c) = keepAt p (k + 1) c := by
  revert p k c; decide +kernel
theorem keepAt_le (p : Fin 3) (k : Fin 4) (c : Dev nD) : keepAt p k c + rowsAt k ≤ 2048 := by revert p k c; decide +kernel
theorem sendAt_le (p : Fin 3) (k : Fin 3) (c : Dev nD) : sendAt p k c + rowsAt (k + 1) ≤ 2048 := by revert p k c; decide +kernel
theorem rowsAt_succ (k : Fin 3) : rowsAt k = rowsAt (k + 1) + rowsAt (k + 1) := by revert k; decide
theorem stageAt_le (k : Fin 3) : stageAt k + rowsAt (k + 1) ≤ 1792 := by revert k; decide
theorem colAt_le (p : Fin 3) : colAt p + colW p ≤ 1024 := by revert p; decide

/-- The rows before a halving are the kept half and the sent half. -/
theorem blk_half (p : Fin 3) (k : Fin 3) (c : Dev nD) (o w : ℕ) :
    (blk (keepAt p k c) (rowsAt k) o w : Finset (⟨2, ![2048, 1024]⟩ : Shape).Idx)
      = blk (keepAt p (k + 1) c) (rowsAt (k + 1)) o w ∪ blk (sendAt p k c) (rowsAt (k + 1)) o w := by
  rw [rowsAt_succ, blk_rows]
  unfold sendAt
  show _ = blk (keepAt p k c + bit (axisAt k p) c * rowsAt (k + 1)) _ _ _ ∪ _
  rcases bit_cases (axisAt k p) c with h | h <;> rw [h]
  · simp only [Nat.zero_mul, Nat.add_zero, Nat.sub_zero, Nat.one_mul]
  · simp only [Nat.one_mul, Nat.sub_self, Nat.zero_mul, Nat.add_zero]; exact Finset.union_comm _ _
theorem blk_half_disj (p : Fin 3) (k : Fin 3) (c : Dev nD) (o w : ℕ) :
    Disjoint (blk (keepAt p (k + 1) c) (rowsAt (k + 1)) o w : Finset (⟨2, ![2048, 1024]⟩ : Shape).Idx) (blk (sendAt p k c) (rowsAt (k + 1)) o w) := by
  unfold sendAt
  show Disjoint (blk (keepAt p k c + bit (axisAt k p) c * rowsAt (k + 1)) _ _ _) _
  rcases bit_cases (axisAt k p) c with h | h <;> rw [h]
  · simp only [Nat.zero_mul, Nat.add_zero, Nat.sub_zero, Nat.one_mul]; exact blk_rows_disj
  · simp only [Nat.one_mul, Nat.sub_self, Nat.zero_mul, Nat.add_zero]; exact blk_rows_disj.symm

/-! ## What a transfer moves -/

/-- How many rows transfer `t` moves, and the first of them on the sending device `c`. -/
def rowsOf (t : Xf) : ℕ := if t.1.val < 3 then rowsAt (t.1.val + 1) else rowsAt (6 - t.1.val)
def srcAt (t : Xf) (c : Dev nD) : ℕ := if t.1.val < 3 then sendAt t.2 t.1.val c else keepAt t.2 (6 - t.1.val) c
/-- What a transfer's semaphores count. -/
def amt (t : Xf) : ℕ := rowsOf t * colW t.2 / 8
theorem amt_pos (t : Xf) : 0 < amt t := by revert t; decide

theorem srcAt_le (t : Xf) (c : Dev nD) : srcAt t c + rowsOf t ≤ 2048 := by revert t c; decide +kernel
theorem rowsOf_pos (t : Xf) : 0 < rowsOf t := by revert t; decide

/-! ## The owner of a row -/

set_option backward.proofsInPublic true in
/-- The device that keeps row block `q` (256 rows each) of part `p` to the end: its bit on the axis halving `k`
    crosses is the `k`-th binary digit of `q`, the highest first. -/
def owner (p : Fin 3) (q : ℕ) : Dev nD :=
  let d (a : ℕ) : ℕ := q / 2 ^ (2 - (a + 3 - p.val) % 3) % 2
  ⟨(4 * d 2 + 2 * d 1 + (d 0 ^^^ d 1)) % 8, Nat.mod_lt _ (by decide)⟩

theorem owner_keepAt (p : Fin 3) (c : Dev nD) : owner p (keepAt p 3 c / 256) = c := by revert p c; decide +kernel
theorem keepAt_three (p : Fin 3) (c : Dev nD) : keepAt p 3 c % 256 = 0 := by revert p c; decide +kernel
theorem owner_row (p : Fin 3) (c : Dev nD) {r : ℕ} (h : keepAt p 3 c ≤ r) (h' : r < keepAt p 3 c + 256) : owner p (r / 256) = c := by
  have h3 := keepAt_three p c
  rw [show r / 256 = keepAt p 3 c / 256 by omega]; exact owner_keepAt p c

end Cert.CubeProof

end
-- ==== Proof.Sched.lean ====
/-
The exchange's semaphores and what each hands over.

A device has one entry semaphore and, for each of the eighteen transfers, a send and a receive semaphore.

* The entry semaphore of `c` is signalled once by each neighbour and waited for three units.  The neighbour across
  axis `a` hands over its own landing regions of the transfers that cross axis `a`.
* The receive semaphore of a halving transfer hands over the landing region, holding the sender's partial sums, and
  the sender's rows they were read from, which the receiver refills when gathering.  Its send semaphore hands nothing.
* The receive semaphore of a gathering transfer hands over the rows received, holding the final result; its send
  semaphore gives the sender back the rows it sent.
-/
module

public import proofs.«01_k».proof.Proof.Cube

@[expose] public section

noncomputable section

namespace Cert.CubeProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

abbrev UC : Type := URounds (GSem nD τ sig) (Fin 3)
abbrev UU : Type := UR sig nD τ × UC

local notation "𝕄" => MT nD τ sig Unit (Elt F) ℕ UU ℕ

abbrev EP : Emb (UR sig nD τ) (MT nD τ sig Unit (Elt F) ℕ UU ℕ) := embL
abbrev ER : Emb UC (MT nD τ sig Unit (Elt F) ℕ UU ℕ) := embR

/-! ## Cells -/

abbrev barS : Sem sig := (SemArray.scalar (sig.barrier 0 rfl) : Sems sig S_).sem
set_option backward.proofsInPublic true in
def sendS (t : Xf) : DmaSem sig := (⟨if num t < 9 then 6 + num t else 15 + num t, by have := num_lt t; split <;> omega⟩ : Fin 42)
set_option backward.proofsInPublic true in
def recvS (t : Xf) : DmaSem sig := (⟨if num t < 9 then 15 + num t else 24 + num t, by have := num_lt t; split <;> omega⟩ : Fin 42)

/-- The kernel's own semaphores: transfer `t`'s send (`false`) and receive (`true`) semaphore. -/
abbrev osem (j : Bool × Xf) : SemLoc sig := .dma (if j.1 then recvS j.2 else sendS j.2)
/-- With the entry semaphore. -/
abbrev csem : Option (Bool × Xf) → SemLoc sig
  | none => .reg barS
  | some j => osem j

theorem osem_val (j : Bool × Xf) : ((if j.1 then recvS j.2 else sendS j.2 : DmaSem sig) : Fin 42).val
    = if j.1 then (if num j.2 < 9 then 15 + num j.2 else 24 + num j.2) else (if num j.2 < 9 then 6 + num j.2 else 15 + num j.2) := by
  obtain ⟨b, t⟩ := j; cases b <;> rfl
theorem osem_injective : Function.Injective osem := by
  rintro ⟨b, t⟩ ⟨b', t'⟩ h
  have h1 : (if b then recvS t else sendS t : DmaSem sig) = (if b' then recvS t' else sendS t') := by injection h
  have h2 := congrArg (fun q : DmaSem sig => (q : Fin 42).val) h1
  have h3 := osem_val (b, t); have h4 := osem_val (b', t')
  dsimp only at h2 h3 h4
  rw [h3, h4] at h2
  have := num_lt t; have := num_lt t'
  have hb : b = b' := by cases b <;> cases b' <;> first | rfl | (exfalso; simp only [if_true, Bool.false_eq_true, if_false] at h2; split at h2 <;> split at h2 <;> omega)
  subst hb
  have hn : num t = num t' := by cases b <;> simp only [if_true, Bool.false_eq_true, if_false] at h2 <;> split at h2 <;> split at h2 <;> omega
  rw [num_inj hn]
theorem csem_injective : Function.Injective csem := by
  rintro (_ | j) (_ | j') h
  · rfl
  · exact absurd h (by intro h; cases h)
  · exact absurd h (by intro h; cases h)
  · exact congrArg some (osem_injective h)

/-- Which of them a semaphore is. -/
def keyOf (s : SemLoc sig) : Option (Option (Bool × Xf)) := by
  classical exact if h : ∃ k, csem k = s then some h.choose else none
theorem keyOf_csem (k : Option (Bool × Xf)) : keyOf (csem k) = some k := by
  have h : ∃ k', csem k' = csem k := ⟨k, rfl⟩
  unfold keyOf; rw [dif_pos h]; exact congrArg some (csem_injective h.choose_spec)

abbrev cell (c : Dev nD) (k : Option (Bool × Xf)) : GSem nD τ sig := ((c : Thread nD τ), csem k)
abbrev barCell (c : Dev nD) : GSem nD τ sig := cell c none
abbrev sendCell (t : Xf) (c : Dev nD) : GSem nD τ sig := ((c : Thread nD τ), .dma (sendS t))
abbrev recvCell (t : Xf) (c : Dev nD) : GSem nD τ sig := ((c : Thread nD τ), .dma (recvS t))
theorem sendCell_eq (t : Xf) (c : Dev nD) : sendCell t c = cell c (some (false, t)) := rfl
theorem recvCell_eq (t : Xf) (c : Dev nD) : recvCell t c = cell c (some (true, t)) := rfl

theorem cell_injective : Function.Injective (fun ck : Dev nD × Option (Bool × Xf) => cell ck.1 ck.2) := by
  rintro ⟨c, k⟩ ⟨c', k'⟩ h
  have h1 : c = c' := congrArg (fun g : GSem nD τ sig => g.1.1) h
  have h2 : k = k' := csem_injective (congrArg Prod.snd h)
  rw [h1, h2]

/-! ## Contents -/

abbrev OutC (F : FTy → Type) : Type := (cc0_stg5_0 : Ref sig .tc).ty.Contents (Elt F)
abbrev ComC (F : FTy → Type) : Type := (cc0_scratch0 : Ref sig .tc).ty.Contents (Elt F)

abbrev outM : Memref sig .tc .vmem S2048x1024 .f32 := Memref.whole cc0_stg5_0
abbrev comM : Memref sig .tc .vmem S1792x1024 .f32 := Memref.whole cc0_scratch0

/-- Device `c`'s result buffer on the indices `S`, holding `f` there. -/
def outOn (c : Dev nD) (S : Finset S2048x1024.Idx) (f : OutC F) : sProp 𝕄 := ((c : Thread nD τ).loc cc0_stg5_0) ↦[S]{fullShare} f
/-- Device `c`'s landing buffer on the indices `S`, holding `f` there. -/
def comOn (c : Dev nD) (S : Finset S1792x1024.Idx) (f : ComC F) : sProp 𝕄 := ((c : Thread nD τ).loc cc0_scratch0) ↦[S]{fullShare} f

instance outOn_storable (c : Dev nD) (S) (f) : BI.Storable (upEmb : UEmb _ 𝕄) (outOn (F := F) c S f) := by unfold outOn; infer_instance
instance comOn_storable (c : Dev nD) (S) (f) : BI.Storable (upEmb : UEmb _ 𝕄) (comOn (F := F) c S f) := by unfold comOn; infer_instance

/-- The rows `[r, r + h)` of part `p` of the result, and transfer `t`'s landing region. -/
abbrev outBlk (p : Fin 3) (r h : ℕ) : Finset S2048x1024.Idx := blk r h (colAt p) (colW p)
abbrev comBlk (t : Xf) : Finset S1792x1024.Idx := blk (stageAt t.1) (rowsOf t) (colAt t.2) (colW t.2)

/-- The result index at row `r`, column `o`. -/
def ixOut (r o : ℕ) : S2048x1024.Idx :=
  fun a => match a with | 0 => ⟨r % 2048, Nat.mod_lt _ (by decide)⟩ | 1 => ⟨o % 1024, Nat.mod_lt _ (by decide)⟩

variable (A : Fin 3 → ℕ → Dev nD → OutC F) (R : OutC F)

/-- What halving transfer `t` lands on device `c`: the sender's sums at the rows it sends. -/
def landF (t : Xf) (c : Dev nD) : ComC F := fun i =>
  A t.2 t.1 (peer t c) (ixOut ((i 0).val - stageAt t.1 + srcAt t (peer t c)) (i 1).val)

/-- Device `d`'s landing region of transfer `t`, at any contents. -/
def slot (t : Xf) (d : Dev nD) : sProp 𝕄 := iprop(∃ f : ComC F, comOn d (comBlk t) f)
/-- The rows device `d` sends in transfer `t`, at any contents. -/
def hole (t : Xf) (d : Dev nD) : sProp 𝕄 := iprop(∃ f : OutC F, outOn d (outBlk t.2 (srcAt t d) (rowsOf t)) f)

instance slot_storable (t : Xf) (d : Dev nD) : BI.Storable (upEmb : UEmb _ 𝕄) (slot (F := F) t d) := by unfold slot; infer_instance
instance hole_storable (t : Xf) (d : Dev nD) : BI.Storable (upEmb : UEmb _ 𝕄) (hole (F := F) t d) := by unfold hole; infer_instance

/-- The halving transfer `k` that crosses axis `a`. -/
def xfOn (a : Fin 3) (k : Fin 3) : Xf := (⟨k.val, by have := k.isLt; omega⟩, ⟨(a.val + 3 - k.val) % 3, Nat.mod_lt _ (by decide)⟩)
theorem peer_xfOn (a k : Fin 3) (c : Dev nD) : peer (xfOn a k) c = nbr a c := by revert a k c; decide

def barPay (c : Dev nD) (a : Fin 3) : sProp 𝕄 := iprop(slot (xfOn a 0) (nbr a c) ∗ slot (xfOn a 1) (nbr a c) ∗ slot (xfOn a 2) (nbr a c))
def landing (t : Xf) (c : Dev nD) : sProp 𝕄 := comOn c (comBlk t) (landF A t c)
def recvPay (t : Xf) (c : Dev nD) : sProp 𝕄 :=
  if t.1.val < 3 then iprop(landing A t c ∗ hole t (peer t c)) else outOn c (outBlk t.2 (srcAt t (peer t c)) (rowsOf t)) R
def sendPay (t : Xf) (c : Dev nD) : sProp 𝕄 :=
  if t.1.val < 3 then iprop(emp) else outOn c (outBlk t.2 (srcAt t c) (rowsOf t)) R

instance barPay_storable (c : Dev nD) (a) : BI.Storable (upEmb : UEmb _ 𝕄) (barPay (F := F) c a) := by unfold barPay; infer_instance
instance landing_storable (t : Xf) (c : Dev nD) : BI.Storable (upEmb : UEmb _ 𝕄) (landing A t c) := by unfold landing; infer_instance
instance recvPay_storable (t : Xf) (c : Dev nD) : BI.Storable (upEmb : UEmb _ 𝕄) (recvPay A R t c) := by unfold recvPay; split <;> infer_instance
instance sendPay_storable (t : Xf) (c : Dev nD) : BI.Storable (upEmb : UEmb _ 𝕄) (sendPay R t c) := by unfold sendPay; split <;> infer_instance

/-! ## The schedule -/

/-- The duties, amounts and payloads of the semaphore `k` of a device, all at round 0. -/
def dutyK : Option (Option (Bool × Xf)) → Finset (Fin 3)
  | none => ∅
  | some none => Finset.univ
  | some (some _) => {0}
def amountK : Option (Option (Bool × Xf)) → ℕ
  | some (some (_, t)) => amt t
  | _ => 1
def payK (c : Dev nD) (d : Fin 3) : Option (Option (Bool × Xf)) → sProp 𝕄
  | none => iprop(emp)
  | some none => barPay c d
  | some (some (true, t)) => recvPay A R t c
  | some (some (false, t)) => sendPay R t c

def sched : Rounds.Schedule (GSem nD τ sig) (Fin 3) 𝕄 where
  duties g r := if r = 0 ∧ g.1.2 = .tc then dutyK (keyOf g.2) else ∅
  unitless _ := False
  amount g _ _ := amountK (keyOf g.2)
  payload g _ d := payK A R g.1.1 d (keyOf g.2)
  amount_pos g _ _ _ := by
    match keyOf g.2 with
    | none => exact Nat.one_pos
    | some none => exact Nat.one_pos
    | some (some (_, t)) => exact amt_pos t

instance sched_payload_storable (g : GSem nD τ sig) (r : ℕ) (d : Fin 3) : BI.Storable (upEmb : UEmb _ 𝕄) ((sched A R).payload g r d) := by
  show BI.Storable upEmb (payK A R g.1.1 d (keyOf g.2))
  match keyOf g.2 with
  | none => unfold payK; infer_instance
  | some none => unfold payK; infer_instance
  | some (some (true, t)) => unfold payK; infer_instance
  | some (some (false, t)) => unfold payK; infer_instance

theorem duties_cell (c : Dev nD) (k) : (sched A R).duties (cell c k) 0 = dutyK (some k) := by
  dsimp only [sched]; rw [if_pos ⟨rfl, rfl⟩, keyOf_csem]
theorem duties_later (g : GSem nD τ sig) : ∀ r, 1 ≤ r → (sched A R).duties g r = ∅ :=
  fun r hr => by dsimp only [sched]; rw [if_neg fun h => by omega]
theorem amount_cell (c : Dev nD) (k) (d : Fin 3) : (sched A R).amount (cell c k) 0 d = amountK (some k) := by
  dsimp only [sched]; rw [keyOf_csem]
theorem payload_cell (c : Dev nD) (k) (d : Fin 3) : (sched A R).payload (cell c k) 0 d = payK A R c d (some k) := by
  dsimp only [sched]; rw [keyOf_csem]

theorem duties_send (t : Xf) (c : Dev nD) : (sched A R).duties (sendCell t c) 0 = {0} := duties_cell A R c (some (false, t))
theorem duties_recv (t : Xf) (c : Dev nD) : (sched A R).duties (recvCell t c) 0 = {0} := duties_cell A R c (some (true, t))
theorem amount_send (t : Xf) (c : Dev nD) (d) : (sched A R).amount (sendCell t c) 0 d = amt t := amount_cell A R c (some (false, t)) d
theorem amount_recv (t : Xf) (c : Dev nD) (d) : (sched A R).amount (recvCell t c) 0 d = amt t := amount_cell A R c (some (true, t)) d
theorem payload_send (t : Xf) (c : Dev nD) (d) : (sched A R).payload (sendCell t c) 0 d = sendPay R t c := payload_cell A R c (some (false, t)) d
theorem payload_recv (t : Xf) (c : Dev nD) (d) : (sched A R).payload (recvCell t c) 0 d = recvPay A R t c := payload_cell A R c (some (true, t)) d

theorem expect_bar (c : Dev nD) : (sched A R).expect (barCell c) 0 = 3 := by
  unfold Schedule.expect Schedule.amountOf
  rw [duties_cell, Finset.sum_congr rfl fun d _ => amount_cell A R c none d]; rfl
theorem expect_dma (c : Dev nD) (j : Bool × Xf) : (sched A R).expect (cell c (some j)) 0 = amt j.2 := by
  unfold Schedule.expect Schedule.amountOf
  rw [duties_cell]; exact (Finset.sum_singleton _ _).trans (amount_cell A R c _ _)

/-- All that the entry semaphore hands over. -/
theorem rest_bar (c : Dev nD) : bigSep ((sched A R).duties (barCell c) 0 \ ∅) (fun d => (sched A R).payload (barCell c) 0 d)
    = iprop(barPay c 0 ∗ barPay c 1 ∗ barPay c 2) := by
  rw [Finset.sdiff_empty, duties_cell, show dutyK (some none) = Finset.univ from rfl, bigSep_univ_eq_bigSepL [0, 1, 2] (by decide) (by decide),
    bigSepL_cons_cons, bigSepL_cons_cons, bigSepL_singleton, payload_cell, payload_cell, payload_cell]
  rfl
theorem rest_dma (c : Dev nD) (j : Bool × Xf) : bigSep ((sched A R).duties (cell c (some j)) 0 \ ∅) (fun d => (sched A R).payload (cell c (some j)) 0 d)
    = payK A R c 0 (some (some j)) := by
  rw [Finset.sdiff_empty, duties_cell, show dutyK (some (some j)) = {0} from rfl, bigSep_singleton, payload_cell]

/-! ## What a device owes, and the order of the waits -/

/-- Transfers not yet started when `a` have been: each owes its peer's receive semaphore. -/
def owedFrom (c : Dev nD) (a : ℕ) : CellTallies nD τ sig Unit :=
  ∑ t ∈ Finset.univ.filter (fun t : Xf => a ≤ num t), tallyAt (recvCell t (peer t c)) () (amt t)
/-- At launch the neighbours' entry signals are owed besides. -/
def O₂ (c : Dev nD) : CellTallies nD τ sig Unit := owedFrom c 0 + tallyAt (barCell (nbr 2 c)) () 1
def O₁ (c : Dev nD) : CellTallies nD τ sig Unit := O₂ c + tallyAt (barCell (nbr 1 c)) () 1
def O₀ (c : Dev nD) : CellTallies nD τ sig Unit := O₁ c + tallyAt (barCell (nbr 0 c)) () 1

theorem owedFrom_step (c : Dev nD) (t : Xf) : owedFrom c (num t) = owedFrom c (num t + 1) + tallyAt (recvCell t (peer t c)) () (amt t) := by
  unfold owedFrom
  have hs : Finset.univ.filter (fun t' : Xf => num t ≤ num t') = insert t (Finset.univ.filter fun t' : Xf => num t + 1 ≤ num t') := by
    ext t'
    simp only [Finset.mem_filter, Finset.mem_univ, true_and, Finset.mem_insert]
    constructor
    · intro h
      by_cases h' : num t' = num t
      · exact Or.inl (num_inj h')
      · exact Or.inr (by omega)
    · rintro (rfl | h) <;> omega
  rw [hs, Finset.sum_insert (by simp only [Finset.mem_filter, Finset.mem_univ, true_and]; omega), add_comm]
theorem owedFrom_end (c : Dev nD) : owedFrom c 18 = 0 := by
  unfold owedFrom; refine Finset.sum_eq_zero fun t ht => ?_
  have := num_lt t; simp only [Finset.mem_filter, Finset.mem_univ, true_and] at ht; omega

theorem owedFrom_pos {c : Dev nD} {a : ℕ} {g : GSem nD τ sig} {u : Unit} (h : 0 < owedFrom c a g u) : ∃ t, a ≤ num t ∧ g = recvCell t (peer t c) := by
  by_contra hn
  have : owedFrom c a g u = 0 := by
    unfold owedFrom
    rw [Finset.sum_apply, Finsupp.finset_sum_apply]
    refine Finset.sum_eq_zero fun t ht => ?_
    rw [tallyAt_apply, if_neg]
    exact fun h' => hn ⟨t, (Finset.mem_filter.mp ht).2, h'.1⟩
  omega

def L (g : GSem nD τ sig) : Finset Unit := if g.1.2 = .tc then {()} else ∅
/-- The entry semaphores come first, then the receive semaphores in the transfers' order; nobody owes the others. -/
def lvK : Option (Option (Bool × Xf)) → ℕ
  | some none => 1
  | some (some (true, t)) => 2 + num t
  | _ => 0
def lv (g : GSem nD τ sig) (_ : Unit) : ℕ := lvK (keyOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k) : lv (cell c k) () = lvK (some k) := by unfold lv; rw [keyOf_csem]

/-- A semaphore below every receive semaphore still owed may be waited for. -/
theorem mayWait_from (c : Dev nD) (sm : SemLoc sig) (a : ℕ) (h : lv ((c : Thread nD τ), sm) () < 2 + a) :
    (levAts L lv : sProp 𝕄) ⊢ MayWait (c : Thread nD τ) sm () (owedFrom c a) :=
  MayOwe.of_cut (L := L) (lev := lv) (lv ((c : Thread nD τ), sm) ())
    (fun p hp => by rw [Finset.mem_singleton.mp hp, L_tc]; exact Finset.mem_singleton_self _)
    (fun g u hg => by obtain ⟨t, -, rfl⟩ := owedFrom_pos hg; exact Finset.mem_singleton_self _)
    (fun p hp => by rw [Finset.mem_singleton.mp hp])
    (fun g u hg => by
      obtain ⟨t, ht, rfl⟩ := owedFrom_pos hg
      rw [recvCell_eq, lv_cell]; show _ < 2 + num t; omega)

theorem O₀_pos {c : Dev nD} {g : GSem nD τ sig} {u : Unit} (h : 0 < O₀ c g u) : (∃ t, g = recvCell t (peer t c)) ∨ ∃ a, g = barCell (nbr a c) := by
  by_contra hn
  rw [not_or] at hn
  have h0 : owedFrom c 0 g u = 0 := by
    by_contra h'
    obtain ⟨t, -, ht⟩ := owedFrom_pos (Nat.pos_of_ne_zero h'); exact hn.1 ⟨t, ht⟩
  have hb (a : Fin 3) : (tallyAt (barCell (nbr a c)) () 1 : CellTallies nD τ sig Unit) g u = 0 := by
    rw [tallyAt_apply, if_neg fun h' => hn.2 ⟨a, h'.1⟩]
  unfold O₀ O₁ O₂ at h
  rw [Pi.add_apply, Finsupp.add_apply, Pi.add_apply, Finsupp.add_apply, Pi.add_apply, Finsupp.add_apply, h0, hb, hb, hb] at h
  exact Nat.lt_irrefl 0 h

/-- A semaphore none of the exchange's, a staging one, may be waited for at launch and at the end. -/
theorem mayWait_stage (c : Dev nD) (sm : SemLoc sig) (hq : keyOf sm = none) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨a, rfl⟩ <;> exact Finset.mem_singleton_self _)
      (fun p hp => by rw [Finset.mem_singleton.mp hp]; unfold lv; dsimp only; rw [hq]; exact Nat.le_refl 0)
      (fun g u hg => by
        rcases O₀_pos hg with ⟨t, rfl⟩ | ⟨a, rfl⟩
        · rw [recvCell_eq, lv_cell]; show 0 < 2 + num t; omega
        · rw [lv_cell]; exact Nat.one_pos)
  · rw [MayWait_zero]; iintro -; iempintro

theorem keyOf_low (q : Fin 42) (h : q.val < 6) : keyOf (.dma (q : DmaSem sig)) = none := by
  unfold keyOf
  rw [dif_neg]
  rintro ⟨k, hk⟩
  match k, hk with
  | none, hk => cases hk
  | some j, hk =>
    have h1 : (if j.1 then recvS j.2 else sendS j.2 : DmaSem sig) = q := by injection hk
    have h2 := osem_val j
    rw [h1] at h2
    rw [h2] at h
    revert h; split <;> split <;> omega

end Cert.CubeProof

end
-- ==== Proof.Ops.lean ====
/-
One step of the kernel at a time: starting a transfer, waiting for it, the entry signals and the entry wait.

`bk c a s r` is what device `c` holds of the exchange's bookkeeping when it has started the transfers before `a` and
waited for the sends before `s` and the receipts before `r`.
-/
module

public import proofs.«01_k».proof.Proof.Sched

@[expose] public section

noncomputable section

namespace Cert.CubeProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program on device `c`'s core. -/
abbrev wpAt (c : Dev nD) {α : Type} (k : Prog (TpuEff nD τ sig (Elt F) Λ₀ .tc) α) (Q : α → sProp 𝕄) : sProp 𝕄 :=
  wp frame (wpE (defs₀ (F := F)) 𝒱₀ (c : Thread nD τ) none) Set.univ k Q

variable (A : Fin 3 → ℕ → Dev nD → OutC F) (R : OutC F)

/-! ## What every device knows -/

abbrev CK : Type := Dev nD × Option (Bool × Xf)
abbrev kcell (ck : CK) : GSem nD τ sig := cell ck.1 ck.2

def records (K : CK → ℕ) : sProp 𝕄 :=
  iprop((bigSep Finset.univ fun ck : CK => cellInv ER (sched A R) (K ck) (kcell ck)) ∗ bigSep Finset.univ fun ck : CK => reached ER (kcell ck) 0)
instance records_persistent (K : CK → ℕ) : BI.Persistent (records A R K) := by unfold records; infer_instance

/-- The cells' invariants, that each has reached round 0, and the semaphores' levels. -/
def env (K : CK → ℕ) : sProp 𝕄 := iprop(records A R K ∗ levAts L lv)
instance env_persistent (K : CK → ℕ) : BI.Persistent (env A R K) := by unfold env; infer_instance

theorem all_inv (K : CK → ℕ) (ck : CK) :
    (bigSep Finset.univ fun ck : CK => (cellInv ER (sched A R) (K ck) (kcell ck) : sProp 𝕄)) ⊢ cellInv ER (sched A R) (K ck) (kcell ck) :=
  bigSep_elim (Finset.mem_univ ck)
theorem all_reached (ck : CK) : (bigSep Finset.univ fun ck : CK => (reached ER (kcell ck) 0 : sProp 𝕄)) ⊢ reached ER (kcell ck) 0 :=
  bigSep_elim (Finset.mem_univ ck)
theorem env_inv (K : CK → ℕ) (ck : CK) : env A R K ⊢ cellInv ER (sched A R) (K ck) (kcell ck) := by
  unfold env records
  iintro ⟨⟨#HI, -⟩, -⟩
  iapply (all_inv A R K ck); iexact HI
theorem env_reached (K : CK → ℕ) (ck : CK) : env A R K ⊢ reached ER (kcell ck) 0 := by
  unfold env records
  iintro ⟨⟨-, #HR⟩, -⟩
  iapply (all_reached (F := F) ck); iexact HR
theorem env_lev (K : CK → ℕ) : env A R K ⊢ levAts L lv := by
  unfold env; iintro ⟨-, #H⟩; iexact H

/-! ## The bookkeeping -/

def sendE (c : Dev nD) (a s : ℕ) (t : Xf) : sProp 𝕄 :=
  if num t < s then atPos ER (sendCell t c) 1 ∅ 0
  else if num t < a then iprop(atPos ER (sendCell t c) 0 ∅ 0 ∗ cred (tallyAt (sendCell t c) () (amt t)))
  else iprop(atPos ER (sendCell t c) 0 ∅ 0 ∗ dutyTok ER (sendCell t c) 0 0)
def recvE (c : Dev nD) (r : ℕ) (t : Xf) : sProp 𝕄 :=
  if num t < r then atPos ER (recvCell t c) 1 ∅ 0
  else iprop(atPos ER (recvCell t c) 0 ∅ 0 ∗ cred (tallyAt (recvCell t c) () (amt t)))
def tokE (c : Dev nD) (a : ℕ) (t : Xf) : sProp 𝕄 :=
  if num t < a then iprop(emp) else dutyTok ER (recvCell t (peer t c)) 0 0

def bk (c : Dev nD) (a s r : ℕ) : sProp 𝕄 :=
  iprop((∃ W, owes (c : Thread nD τ) (owedFrom c a) W)
    ∗ bigSep Finset.univ (sendE c a s) ∗ bigSep Finset.univ (recvE c r) ∗ bigSep Finset.univ (tokE c a))

/-- One summand taken out, and put back changed when no other summand changes. -/
theorem bigSep_one {Φ Ψ : Xf → sProp 𝕄} (t : Xf) (h : ∀ t', num t' ≠ num t → Φ t' = Ψ t') :
    bigSep Finset.univ Φ ⊢ iprop(Φ t ∗ (Ψ t -∗ bigSep Finset.univ Ψ)) := by
  rw [bigSep_univ_at Φ t, bigSep_univ_at Ψ t, bigSep_congr (s := Finset.univ.erase t) (Φ := Φ) (Ψ := Ψ)
    fun t' ht' => h t' fun hn => (Finset.mem_erase.mp ht').1 (num_inj hn)]
  iintro ⟨H, Hr⟩
  isplitl [H]; · iexact H
  iintro H; isplitl [H] <;> iassumption

theorem sendE_start (c : Dev nD) (t : Xf) {s : ℕ} (hs : s ≤ num t) :
    bigSep Finset.univ (sendE (F := F) c (num t) s)
      ⊢ iprop((atPos ER (sendCell t c) 0 ∅ 0 ∗ dutyTok ER (sendCell t c) 0 0)
        ∗ ((atPos ER (sendCell t c) 0 ∅ 0 ∗ cred (tallyAt (sendCell t c) () (amt t))) -∗ bigSep Finset.univ (sendE c (num t + 1) s))) := by
  have h := bigSep_one (F := F) (Φ := sendE c (num t) s) (Ψ := sendE c (num t + 1) s) t fun t' ht' => by
    unfold sendE
    by_cases h1 : num t' < num t
    · rw [if_pos h1, if_pos (show num t' < num t + 1 by omega)]
    · rw [if_neg h1, if_neg (show ¬ num t' < num t + 1 by omega)]
  rwa [show sendE (F := F) c (num t) s t = _ from (if_neg (by omega)).trans (if_neg (by omega)),
    show sendE (F := F) c (num t + 1) s t = _ from (if_neg (by omega)).trans (if_pos (by omega))] at h
theorem sendE_done (c : Dev nD) (t : Xf) {a : ℕ} (ha : num t < a) :
    bigSep Finset.univ (sendE (F := F) c a (num t))
      ⊢ iprop((atPos ER (sendCell t c) 0 ∅ 0 ∗ cred (tallyAt (sendCell t c) () (amt t)))
        ∗ (atPos ER (sendCell t c) 1 ∅ 0 -∗ bigSep Finset.univ (sendE c a (num t + 1)))) := by
  have h := bigSep_one (F := F) (Φ := sendE c a (num t)) (Ψ := sendE c a (num t + 1)) t fun t' ht' => by
    unfold sendE
    by_cases h1 : num t' < num t
    · rw [if_pos h1, if_pos (show num t' < num t + 1 by omega)]
    · rw [if_neg h1, if_neg (show ¬ num t' < num t + 1 by omega)]
  rwa [show sendE (F := F) c a (num t) t = _ from (if_neg (by omega)).trans (if_pos ha),
    show sendE (F := F) c a (num t + 1) t = _ from if_pos (by omega)] at h
theorem recvE_done (c : Dev nD) (t : Xf) :
    bigSep Finset.univ (recvE (F := F) c (num t))
      ⊢ iprop((atPos ER (recvCell t c) 0 ∅ 0 ∗ cred (tallyAt (recvCell t c) () (amt t)))
        ∗ (atPos ER (recvCell t c) 1 ∅ 0 -∗ bigSep Finset.univ (recvE c (num t + 1)))) := by
  have h := bigSep_one (F := F) (Φ := recvE c (num t)) (Ψ := recvE c (num t + 1)) t fun t' ht' => by
    unfold recvE
    by_cases h1 : num t' < num t
    · rw [if_pos h1, if_pos (show num t' < num t + 1 by omega)]
    · rw [if_neg h1, if_neg (show ¬ num t' < num t + 1 by omega)]
  rwa [show recvE (F := F) c (num t) t = _ from if_neg (by omega),
    show recvE (F := F) c (num t + 1) t = _ from if_pos (by omega)] at h
theorem tokE_start (c : Dev nD) (t : Xf) :
    bigSep Finset.univ (tokE (F := F) c (num t))
      ⊢ iprop(dutyTok ER (recvCell t (peer t c)) 0 0 ∗ (emp -∗ bigSep Finset.univ (tokE c (num t + 1)))) := by
  have h := bigSep_one (F := F) (Φ := tokE c (num t)) (Ψ := tokE c (num t + 1)) t fun t' ht' => by
    unfold tokE
    by_cases h1 : num t' < num t
    · rw [if_pos h1, if_pos (show num t' < num t + 1 by omega)]
    · rw [if_neg h1, if_neg (show ¬ num t' < num t + 1 by omega)]
  rwa [show tokE (F := F) c (num t) t = _ from if_neg (by omega),
    show tokE (F := F) c (num t + 1) t = _ from if_pos (by omega)] at h

/-! ## Slices of the two buffers -/

abbrev rct {n : ℕ} (off sz : Fin 2 → ℕ) (inb : ∀ a : Fin 2, off a + sz a ≤ (⟨2, ![n, 1024]⟩ : Shape).size a) : Rect (⟨2, ![n, 1024]⟩ : Shape) := Rect.unit (s := ⟨2, ![n, 1024]⟩) off sz inb

theorem out_slice_set {r h o w : ℕ} {off sz : Fin 2 → ℕ} {inb} (hoff : off = ![r, o]) (hsz : sz = ![h, w]) :
    ((outM.slice (rct (n := 2048) off sz inb) (fun _ => rfl)).view.set : Finset S2048x1024.Idx) = blk r h o w :=
  (View.set_slice_whole cc0_stg5_0 (rct (n := 2048) off sz inb)).trans (unit_set off sz inb hoff hsz)
theorem com_slice_set {r h o w : ℕ} {off sz : Fin 2 → ℕ} {inb} (hoff : off = ![r, o]) (hsz : sz = ![h, w]) :
    ((comM.slice (rct (n := 1792) off sz inb) (fun _ => rfl)).view.set : Finset S1792x1024.Idx) = blk r h o w :=
  (View.set_slice_whole cc0_scratch0 (rct (n := 1792) off sz inb)).trans (unit_set off sz inb hoff hsz)

/-- Where a unit-stride rectangle puts an index. -/
theorem emb_val {n : ℕ} (off sz : Fin 2 → ℕ) (inb) (x : (rct (n := n) off sz inb).shape.Idx) (a : Fin 2) :
    ((rct (n := n) off sz inb).emb x a).val = off a + (x a).val := by
  show off a + 1 * (x a).val = _; rw [Nat.one_mul]

/-- Two index functions with the same row and column are equal. -/
theorem idx_ext {n : ℕ} {i j : (⟨2, ![n, 1024]⟩ : Shape).Idx} (h0 : (i 0).val = (j 0).val) (h1 : (i 1).val = (j 1).val) : i = j := by
  funext a; match a with
  | 0 => exact Fin.ext h0
  | 1 => exact Fin.ext h1

theorem outOn_congr {c : Dev nD} {S : Finset S2048x1024.Idx} {f g : OutC F} (h : ∀ i ∈ S, f i = g i) : outOn (F := F) c S f = outOn c S g := by
  unfold outOn; exact pointsTo_congr h
theorem comOn_congr {c : Dev nD} {S : Finset S1792x1024.Idx} {f g : ComC F} (h : ∀ i ∈ S, f i = g i) : comOn (F := F) c S f = comOn c S g := by
  unfold comOn; exact pointsTo_congr h

theorem outOn_union {c : Dev nD} {S T : Finset S2048x1024.Idx} {f : OutC F} (h : Disjoint S T) :
    outOn (F := F) c (S ∪ T) f ⊣⊢ iprop(outOn c S f ∗ outOn c T f) := by
  unfold outOn; exact pointsTo_union h

/-- The rows of part `p` device `c` keeps after `k` halvings. -/
def own (p : Fin 3) (k : ℕ) (c : Dev nD) (f : OutC F) : sProp 𝕄 := outOn c (outBlk p (keepAt p k c) (rowsAt k)) f

/-- Those rows are the ones kept by the next halving and the ones it sends. -/
theorem own_split (p : Fin 3) (k : Fin 3) (c : Dev nD) (f : OutC F) :
    own p k c f ⊣⊢ iprop(own p (k + 1) c f ∗ outOn (F := F) c (outBlk p (sendAt p k c) (rowsAt (k + 1))) f) := by
  unfold own outBlk
  rw [blk_half p k c]
  exact outOn_union (blk_half_disj p k c _ _)

/-! ## Starting a transfer -/

section Send

/-- Start halving transfer `t`: the rows sent and the peer's landing region are handed over. -/
theorem wp_rs {α : Type} {Q : α → sProp 𝕄} (K : CK → ℕ) (c n : Dev nD) (s : Fin 3) (t : Xf) (ht : s.val = t.1.val) (hn : n = peer t c) {q : ℕ} (hq : q ≤ num t)
    {off sz offd : Fin 2 → ℕ} {inb inbd} (hoff : off = ![srcAt t c, colAt t.2]) (hoffd : offd = ![stageAt t.1, colAt t.2])
    (hsz : sz = ![rowsOf t, colW t.2]) {sS sR : DmaSem sig} (hS : sS = sendS t) (hR : sR = recvS t)
    {r : ℕ} {hsc : (comM.slice (rct (n := 1792) offd sz inbd) (fun _ => rfl)).view.ref.isScScratch = false}
    {hsrc : (outM.slice (rct (n := 2048) off sz inb) (fun _ => rfl)).view.WordExact} {hdst : (comM.slice (rct (n := 1792) offd sz inbd) (fun _ => rfl)).view.WordExact}
    {hsem : DmaTarget.Typed .vmem (.dma sR) (.remote (Dev.tc n : Thread nD τ) (comM.slice (rct (n := 1792) offd sz inbd) (fun _ => rfl)) (.dma sS) hsc)} {k : PUnit → Prog (TpuEff nD τ sig (Elt F) Λ₀ .tc) α}
    (hcr : ((comM.slice (rct (n := 1792) offd sz inbd) (fun _ => rfl)).view.dmaCredit) = amt t) :
    env A R K ⊢ iprop(bk c (num t) q r -∗ own t.2 s c (A t.2 s c) -∗ slot t (peer t c)
      -∗ ((bk c (num t + 1) q r ∗ own t.2 (s + 1) c (A t.2 s c)) -∗ wpAt c (k ⟨⟩) Q)
      -∗ wpAt c (.op (.enqueueDma (outM.slice (rct (n := 2048) off sz inb) (fun _ => rfl))
          (.remote (Dev.tc n : Thread nD τ) (comM.slice (rct (n := 1792) offd sz inbd) (fun _ => rfl)) (.dma sS) hsc) (.dma sR) hsrc hdst hsem) k) Q) := by
  subst hn hS hR
  have hs3 : t.1.val < 3 := ht ▸ s.isLt
  have hsrcAt : sendAt t.2 s c = srcAt t c := by unfold srcAt; rw [if_pos hs3, ht]
  have hrows : rowsAt (s.val + 1) = rowsOf t := by unfold rowsOf; rw [if_pos hs3, ht]
  unfold bk
  iintro #HE ⟨⟨%W, HO⟩, HS, HV, HT⟩ Hown Hslot Hk
  ihave Hown := (own_split t.2 s c (A t.2 s c)).1 $$ Hown
  icases Hown with ⟨Hkeep, Hsrc⟩
  rw [hsrcAt, hrows]
  unfold slot
  icases Hslot with ⟨%fd, Hdst⟩
  ihave HS' := (sendE_start c t hq) $$ HS
  icases HS' with ⟨⟨HatS, HtS⟩, HSk⟩
  ihave HT' := (tokE_start c t) $$ HT
  icases HT' with ⟨HtV, HTk⟩
  ihave #HI1 := (env_inv A R K (c, some (false, t))) $$ HE
  ihave #HI2 := (env_inv A R K (peer t c, some (true, t))) $$ HE
  ihave #HR1 := (env_reached A R K (c, some (false, t))) $$ HE
  ihave #HR2 := (env_reached A R K (peer t c, some (true, t))) $$ HE
  have hp := peer_peer t c
  have hland : iprop(comOn (F := F) (peer t c) (comBlk t) ((comM.slice (rct (n := 1792) offd sz inbd) (fun _ => rfl)).view.write (Elt F) fd
      ((outM.slice (rct (n := 2048) off sz inb) (fun _ => rfl)).view.read (Elt F) (A t.2 s c)) Finset.univ)
      ∗ outOn c (outBlk t.2 (srcAt t c) (rowsOf t)) (A t.2 s c)) ⊢ payK A R (peer t c) 0 (some (some (true, t))) := by
    show _ ⊢ recvPay A R t (peer t c)
    unfold recvPay landing hole
    rw [if_pos hs3, hp]
    refine BIClass.sep_mono (Entails.of_eq (comOn_congr fun i hi => ?_)) ?_
    · have hi : i ∈ ((comM.slice (rct (n := 1792) offd sz inbd) (fun _ => rfl)).view.set : Finset S1792x1024.Idx) := by
        rw [com_slice_set hoffd hsz]; exact hi
      obtain ⟨x, -, rfl⟩ := Finset.mem_map.mp hi
      refine (View.write_emb_of_mem _ _ (Finset.mem_univ x)).trans ?_
      show A t.2 s c ((rct (n := 2048) off sz inb).emb x) = A t.2 t.1 (peer t (peer t c)) (ixOut (((rct (n := 1792) offd sz inbd).emb x 0).val - stageAt t.1 + srcAt t (peer t (peer t c))) ((rct (n := 1792) offd sz inbd).emb x 1).val)
      rw [hp, ht]
      refine congrArg _ (idx_ext ?_ ?_)
      · show _ = _ % 2048
        rw [emb_val off sz inb x 0, emb_val offd sz inbd x 0]
        have h1 : off 0 = srcAt t c := congrFun hoff 0
        have h2 : offd 0 = stageAt t.1 := congrFun hoffd 0
        have h3 : off 0 + sz 0 ≤ 2048 := inb 0
        have h4 : (x 0).val < sz 0 := (x 0).isLt
        omega
      · show _ = _ % 1024
        rw [emb_val off sz inb x 1, emb_val offd sz inbd x 1]
        have h1 : off 1 = colAt t.2 := congrFun hoff 1
        have h2 : offd 1 = colAt t.2 := congrFun hoffd 1
        have h3 : off 1 + sz 1 ≤ 1024 := inb 1
        have h4 : (x 1).val < sz 1 := (x 1).isLt
        omega
    · iintro H; iexists _; iexact H
  iapply (Rounds.wp_send_landing_pointsTo 𝒱₀ ER (sched A R) (c : Thread nD τ) none (κ₁ := K (c, some (false, t))) (κ₂ := K (peer t c, some (true, t)))
    (c' := (peer t c : Thread nD τ)) (src := outM.slice (rct (n := 2048) off sz inb) (fun _ => rfl)) (dst := comM.slice (rct (n := 1792) offd sz inbd) (fun _ => rfl))
    (sS := .dma (sendS t)) (sem := .dma (recvS t)) (r₁ := 0) (r₂ := 0) (d₁ := 0) (d₂ := 0) (q := fullShare) (fs := A t.2 s c) (fd := fd)
    (by rw [duties_send A R t c]; exact Finset.mem_singleton_self _) (by rw [duties_recv A R t (peer t c)]; exact Finset.mem_singleton_self _)
    () () (amt t) hcr (amount_send A R t c 0) (amount_recv A R t (peer t c) 0) (owedFrom c (num t + 1)) (owedFrom_step c t) (W := W)
    (by rw [payload_send A R t c]; unfold sendPay; rw [if_pos hs3])
    (by
      rw [payload_recv A R t (peer t c)]
      refine Entails.trans (BIClass.sep_mono (Entails.of_eq ?_) (Entails.of_eq ?_)) hland
      · unfold comOn; rw [com_slice_set hoffd hsz]
      · unfold outOn; rw [out_slice_set hoff hsz])) $$ [Hsrc Hdst HO HtS HtV]
  · isplitr; · iexact HI1
    isplitr; · iexact HI2
    isplitl [Hsrc]
    · rw [out_slice_set hoff hsz]; unfold outOn; iexact Hsrc
    isplitl [Hdst]
    · rw [com_slice_set hoffd hsz]; unfold comOn; iexact Hdst
    isplitl [HO]; · iexact HO
    isplitl [HtS]; · iexact HtS
    isplitr; · iexact HR1
    isplitl [HtV]; · iexact HtV
    iexact HR2
  iintro ⟨Hc, HO⟩
  iapply Hk
  isplitr [Hkeep]
  · isplitl [HO]; · iexists W; iexact HO
    isplitl [HSk HatS Hc]
    · iapply HSk; isplitl [HatS] <;> iassumption
    isplitl [HV]; · iexact HV
    iapply HTk; iempintro
  · unfold own; rw [hrows]; iexact Hkeep

/-- The halving transfer whose rows gathering transfer `t` refills on the receiver. -/
def mirror (t : Xf) : Xf := (⟨5 - t.1.val, by omega⟩, t.2)
theorem peer_mirror (t : Xf) (c : Dev nD) : peer (mirror t) c = peer t c := by revert t c; decide +kernel

/-- A gathering transfer sends what its sender keeps after `6 - step` halvings; these are the rows the mirror halving
    transfer of the receiver sent. -/
theorem srcAt_mirror (t : Xf) (h : 3 ≤ t.1.val) (c : Dev nD) : srcAt (mirror t) (peer t c) = srcAt t c := by
  revert t c; decide +kernel
theorem rowsOf_mirror (t : Xf) (h : 3 ≤ t.1.val) : rowsOf (mirror t) = rowsOf t := by revert t; decide +kernel

theorem own_gather (t : Xf) (h : 3 ≤ t.1.val) (c : Dev nD) (f : OutC F) :
    own (F := F) t.2 (6 - t.1.val) c f = outOn c (outBlk t.2 (srcAt t c) (rowsOf t)) f := by
  unfold own srcAt rowsOf; rw [if_neg (by omega), if_neg (by omega)]

/-- Start gathering transfer `t`: the rows sent, and the peer's rows they refill, are handed over. -/
theorem wp_ag {α : Type} {Q : α → sProp 𝕄} (K : CK → ℕ) (c n : Dev nD) (t : Xf) (ht : 3 ≤ t.1.val) (hn : n = peer t c) {q : ℕ} (hq : q ≤ num t)
    {off sz : Fin 2 → ℕ} {inb} (hoff : off = ![srcAt t c, colAt t.2])
    (hsz : sz = ![rowsOf t, colW t.2]) {sS sR : DmaSem sig} (hS : sS = sendS t) (hR : sR = recvS t)
    {r : ℕ} {hsc : (outM.slice (rct (n := 2048) off sz inb) (fun _ => rfl)).view.ref.isScScratch = false}
    {hsrc : (outM.slice (rct (n := 2048) off sz inb) (fun _ => rfl)).view.WordExact} {hdst : (outM.slice (rct (n := 2048) off sz inb) (fun _ => rfl)).view.WordExact}
    {hsem : DmaTarget.Typed .vmem (.dma sR) (.remote (Dev.tc n : Thread nD τ) (outM.slice (rct (n := 2048) off sz inb) (fun _ => rfl)) (.dma sS) hsc)} {k : PUnit → Prog (TpuEff nD τ sig (Elt F) Λ₀ .tc) α}
    (hcr : ((outM.slice (rct (n := 2048) off sz inb) (fun _ => rfl)).view.dmaCredit) = amt t) :
    env A R K ⊢ iprop(bk c (num t) q r -∗ own t.2 (6 - t.1.val) c R -∗ hole (mirror t) (peer t c)
      -∗ (bk c (num t + 1) q r -∗ wpAt c (k ⟨⟩) Q)
      -∗ wpAt c (.op (.enqueueDma (outM.slice (rct (n := 2048) off sz inb) (fun _ => rfl))
          (.remote (Dev.tc n : Thread nD τ) (outM.slice (rct (n := 2048) off sz inb) (fun _ => rfl)) (.dma sS) hsc) (.dma sR) hsrc hdst hsem) k) Q) := by
  subst hn hS hR
  have hp := peer_peer t c
  rw [own_gather t ht]
  unfold bk hole
  rw [srcAt_mirror t ht, rowsOf_mirror t ht]
  iintro #HE ⟨⟨%W, HO⟩, HS, HV, HT⟩ Hsrc ⟨%fd, Hdst⟩ Hk
  ihave HS' := (sendE_start c t hq) $$ HS
  icases HS' with ⟨⟨HatS, HtS⟩, HSk⟩
  ihave HT' := (tokE_start c t) $$ HT
  icases HT' with ⟨HtV, HTk⟩
  ihave #HI1 := (env_inv A R K (c, some (false, t))) $$ HE
  ihave #HI2 := (env_inv A R K (peer t c, some (true, t))) $$ HE
  ihave #HR1 := (env_reached A R K (c, some (false, t))) $$ HE
  ihave #HR2 := (env_reached A R K (peer t c, some (true, t))) $$ HE
  iapply (Rounds.wp_send_pointsTo 𝒱₀ ER (sched A R) (c : Thread nD τ) none (κ₁ := K (c, some (false, t))) (κ₂ := K (peer t c, some (true, t)))
    (c' := (peer t c : Thread nD τ)) (src := outM.slice (rct (n := 2048) off sz inb) (fun _ => rfl)) (dst := outM.slice (rct (n := 2048) off sz inb) (fun _ => rfl))
    (sS := .dma (sendS t)) (sem := .dma (recvS t)) (r₁ := 0) (r₂ := 0) (d₁ := 0) (d₂ := 0) (q := fullShare) (fs := R) (fd := fd)
    (by rw [duties_send A R t c]; exact Finset.mem_singleton_self _) (by rw [duties_recv A R t (peer t c)]; exact Finset.mem_singleton_self _)
    () () (amt t) hcr (amount_send A R t c 0) (amount_recv A R t (peer t c) 0) (owedFrom c (num t + 1)) (owedFrom_step c t) (W := W)
    (by
      rw [payload_send A R t c]; unfold sendPay; rw [if_neg (by omega)]
      refine Entails.of_eq ?_
      unfold outOn; rw [out_slice_set hoff hsz])
    (by
      rw [payload_recv A R t (peer t c)]; unfold recvPay; rw [if_neg (by omega), hp]
      refine Entails.trans (Entails.of_eq ?_) (Entails.of_eq (outOn_congr (f := (outM.slice (rct (n := 2048) off sz inb) (fun _ => rfl)).view.write (Elt F) fd
        ((outM.slice (rct (n := 2048) off sz inb) (fun _ => rfl)).view.read (Elt F) R) Finset.univ) fun i hi => ?_))
      · unfold outOn; rw [out_slice_set hoff hsz]
      · have hi : i ∈ ((outM.slice (rct (n := 2048) off sz inb) (fun _ => rfl)).view.set : Finset S2048x1024.Idx) := by
          rw [out_slice_set hoff hsz]; exact hi
        obtain ⟨x, -, rfl⟩ := Finset.mem_map.mp hi
        exact View.write_emb_of_mem _ _ (Finset.mem_univ x))) $$ [Hsrc Hdst HO HtS HtV]
  · isplitr; · iexact HI1
    isplitr; · iexact HI2
    isplitl [Hsrc]
    · rw [out_slice_set hoff hsz]; unfold outOn; iexact Hsrc
    isplitl [Hdst]
    · rw [out_slice_set hoff hsz]; unfold outOn; iexact Hdst
    isplitl [HO]; · iexact HO
    isplitl [HtS]; · iexact HtS
    isplitr; · iexact HR1
    isplitl [HtV]; · iexact HtV
    iexact HR2
  iintro ⟨Hc, HO⟩
  iapply Hk
  isplitl [HO]; · iexists W; iexact HO
  isplitl [HSk HatS Hc]
  · iapply HSk; isplitl [HatS] <;> iassumption
  isplitl [HV]; · iexact HV
  iapply HTk; iempintro

/-! ## Waiting for a transfer -/

/-- Wait for the send of transfer `t`. -/
theorem wp_waitS {α : Type} {Q : α → sProp 𝕄} (K : CK → ℕ) (c : Dev nD) (t : Xf) {a : ℕ} (ha : num t < a) {sS : DmaSem sig} (hS : sS = sendS t)
    {s s' : Shape} {e e' : EltTy} {sp sp' : Space} {src : Memref sig .tc sp' s' e'} {dst : Memref sig .tc sp s e} {hsrc : src.view.WordExact} {hdst : dst.view.WordExact}
    (hcr : dst.view.dmaCredit = amt t) {r : ℕ} {k : PUnit → Prog (TpuEff nD τ sig (Elt F) Λ₀ .tc) α} :
    env A R K ⊢ iprop(bk c a (num t) r
      -∗ ((bk c a (num t + 1) r ∗ sendPay R t c) -∗ wpAt c (k ⟨⟩) Q)
      -∗ wpAt c (.op (.waitDma2 sS src dst hsrc hdst) k) Q) := by
  subst hS
  unfold bk
  iintro #HE ⟨⟨%W, HO⟩, HS, HV, HT⟩ Hk
  ihave HS' := (sendE_done c t ha) $$ HS
  icases HS' with ⟨⟨HatS, HcS⟩, HSk⟩
  ihave #HI := (env_inv A R K (c, some (false, t))) $$ HE
  ihave #Hlev := (env_lev A R K) $$ HE
  iapply (Rounds.wp_wait_rest_token 𝒱₀ ER (sched A R) (c : Thread nD τ) none (κ := K (c, some (false, t)))
      (wpE_waitDma2_eq 𝒱₀ (c : Thread nD τ) none Set.univ) (Set.mem_univ _) () (O := owedFrom c a) (W := W) (R := 0) (m := 0) (T := ∅)
      (by rw [Nat.zero_add, hcr]; exact (expect_dma A R c (false, t)).symm)) $$ [HcS HO HatS]
  · isplitr; · iexact HI
    isplitl [HcS]; · rw [hcr]; iexact HcS
    isplitl [HO]; · iexact HO
    isplitr
    · iapply (mayWait_from (F := F) c (.dma (sendS t)) a (by rw [show lv ((c : Thread nD τ), .dma (sendS t)) () = _ from lv_cell c (some (false, t))]; show 0 < _; omega)); iexact Hlev
    iexact HatS
  iintro ⟨HO, HatS, -, Hpay⟩
  ihave Hpay := (show iprop([∗ (sched A R).duties (c.tc, SemLoc.dma (sendS t)) 0 \ ∅] d, (sched A R).payload (c.tc, SemLoc.dma (sendS t)) 0 d) ⊢ (sendPay R t c : sProp 𝕄) from
    Entails.of_eq (rest_dma A R c (false, t))) $$ Hpay
  iapply Hk
  isplitr [Hpay]
  · isplitl [HO]; · iexists _; iexact HO
    isplitl [HSk HatS]; · iapply HSk; iexact HatS
    isplitl [HV] <;> iassumption
  · iexact Hpay

/-- Wait for the receipt of transfer `t`. -/
theorem wp_waitR {α : Type} {Q : α → sProp 𝕄} (K : CK → ℕ) (c : Dev nD) (t : Xf) {a : ℕ} (ha : num t < a) {sR : DmaSem sig} (hR : sR = recvS t)
    {s s' : Shape} {e e' : EltTy} {sp sp' : Space} {src : Memref sig .tc sp' s' e'} {dst : Memref sig .tc sp s e} {hsrc : src.view.WordExact} {hdst : dst.view.WordExact}
    (hcr : dst.view.dmaCredit = amt t) {q : ℕ} {k : PUnit → Prog (TpuEff nD τ sig (Elt F) Λ₀ .tc) α} :
    env A R K ⊢ iprop(bk c a q (num t)
      -∗ ((bk c a q (num t + 1) ∗ recvPay A R t c) -∗ wpAt c (k ⟨⟩) Q)
      -∗ wpAt c (.op (.waitDma2 sR src dst hsrc hdst) k) Q) := by
  subst hR
  unfold bk
  iintro #HE ⟨⟨%W, HO⟩, HS, HV, HT⟩ Hk
  ihave HV' := (recvE_done (F := F) c t) $$ HV
  icases HV' with ⟨⟨HatV, HcV⟩, HVk⟩
  ihave #HI := (env_inv A R K (c, some (true, t))) $$ HE
  ihave #Hlev := (env_lev A R K) $$ HE
  iapply (Rounds.wp_wait_rest_token 𝒱₀ ER (sched A R) (c : Thread nD τ) none (κ := K (c, some (true, t)))
      (wpE_waitDma2_eq 𝒱₀ (c : Thread nD τ) none Set.univ) (Set.mem_univ _) () (O := owedFrom c a) (W := W) (R := 0) (m := 0) (T := ∅)
      (by rw [Nat.zero_add, hcr]; exact (expect_dma A R c (true, t)).symm)) $$ [HcV HO HatV]
  · isplitr; · iexact HI
    isplitl [HcV]; · rw [hcr]; iexact HcV
    isplitl [HO]; · iexact HO
    isplitr
    · iapply (mayWait_from (F := F) c (.dma (recvS t)) a (by rw [show lv ((c : Thread nD τ), .dma (recvS t)) () = _ from lv_cell c (some (true, t))]; show 2 + num t < _; omega)); iexact Hlev
    iexact HatV
  iintro ⟨HO, HatV, -, Hpay⟩
  ihave Hpay := (show iprop([∗ (sched A R).duties (c.tc, SemLoc.dma (recvS t)) 0 \ ∅] d, (sched A R).payload (c.tc, SemLoc.dma (recvS t)) 0 d) ⊢ (recvPay A R t c : sProp 𝕄) from
    Entails.of_eq (rest_dma A R c (true, t))) $$ Hpay
  iapply Hk
  isplitr [Hpay]
  · isplitl [HO]; · iexists _; iexact HO
    isplitl [HS]; · iexact HS
    isplitl [HVk HatV]; · iapply HVk; iexact HatV
    iexact HT
  · iexact Hpay

/-- The rows gathering transfer `t` brings complete those of the level before. -/
theorem own_join (t : Xf) (ht : 3 ≤ t.1.val) (c : Dev nD) :
    iprop(sendPay (F := F) R t c ∗ recvPay A R t c) ⊢ own t.2 (5 - t.1.val) c R := by
  have hk : 5 - t.1.val < 3 := by omega
  have h := (own_split (F := F) t.2 ⟨5 - t.1.val, hk⟩ c R).2
  unfold sendPay recvPay
  rw [if_neg (by omega), if_neg (by omega), ← own_gather t ht]
  have h6 : 6 - t.1.val = 5 - t.1.val + 1 := by have := t.1.isLt; omega
  have hr : rowsAt (5 - t.1.val + 1) = rowsOf t := by unfold rowsOf; rw [if_neg (by omega), h6]
  have hs : sendAt t.2 (5 - t.1.val) c = srcAt t (peer t c) := by
    have h1 := srcAt_mirror t ht (peer t c)
    rw [peer_peer] at h1
    rw [← h1]; unfold srcAt mirror; rw [if_pos (show 5 - t.1.val < 3 from hk)]
  rw [← hs, ← hr, h6]
  exact h

/-! ## The entry signals and the entry wait -/

/-- The landing regions a device hands over across axis `a`. -/
def slotsOn (a : Fin 3) (c : Dev nD) : sProp 𝕄 := iprop(slot (xfOn a 0) c ∗ slot (xfOn a 1) c ∗ slot (xfOn a 2) c)

/-- Signal the neighbour across axis `a`, handing over the landing regions. -/
theorem wp_sig {α : Type} {Q : α → sProp 𝕄} (K : CK → ℕ) (c n : Dev nD) (a : Fin 3) (hn : n = nbr a c) {O X : CellTallies nD τ sig Unit}
    (hO : O = X + tallyAt (barCell (nbr a c)) () 1) {k : PUnit → Prog (TpuEff nD τ sig (Elt F) Λ₀ .tc) α} :
    env A R K ⊢ iprop((∃ W, owes (c : Thread nD τ) O W) -∗ dutyTok ER (barCell (nbr a c)) 0 a -∗ slotsOn a c
      -∗ ((∃ W, owes (c : Thread nD τ) X W) -∗ wpAt c (k ⟨⟩) Q)
      -∗ wpAt c (.op (.semSignal (Dev.tc n : Thread nD τ) barS (1#32 : BitVec 32).toInt) k) Q) := by
  subst hn
  iintro #HE ⟨%W, HO⟩ Ht Hs Hk
  ihave #HI := (env_inv A R K (nbr a c, none)) $$ HE
  ihave #HR := (env_reached A R K (nbr a c, none)) $$ HE
  iapply (Rounds.wp_signal 𝒱₀ ER (sched A R) (c : Thread nD τ) none (dst := (nbr a c : Thread nD τ)) (κ := K (nbr a c, none))
      (d := a) (by rw [show (sched A R).duties ((nbr a c : Thread nD τ), .reg barS) 0 = _ from duties_cell A R (nbr a c) none]; exact Finset.mem_univ _) ((amount_cell A R (nbr a c) none a).trans (by decide)) () X hO (W := W))
    $$ [HO Ht Hs]
  · isplitr; · iexact HI
    isplitl [HO]; · iexact HO
    isplitl [Ht]; · iexact Ht
    isplitl [Hs]
    · rw [show (sched A R).payload ((nbr a c : Thread nD τ), .reg barS) 0 a = barPay (nbr a c) a from payload_cell A R (nbr a c) none a]; unfold barPay; rw [nbr_nbr]; unfold slotsOn; iexact Hs
    iexact HR
  iintro HO
  iapply Hk
  iexists W; iexact HO

/-- Wait for the three neighbours' signals: their landing regions come with them. -/
theorem wp_entry {α : Type} {Q : α → sProp 𝕄} (K : CK → ℕ) (c : Dev nD) {k : PUnit → Prog (TpuEff nD τ sig (Elt F) Λ₀ .tc) α} :
    env A R K ⊢ iprop((∃ W, owes (c : Thread nD τ) (owedFrom c 0) W) -∗ atPos ER (barCell c) 0 ∅ 0 -∗ cred (tallyAt (barCell c) () 3)
      -∗ (((∃ W, owes (c : Thread nD τ) (owedFrom c 0) W) ∗ atPos ER (barCell c) 1 ∅ 0 ∗ barPay c 0 ∗ barPay c 1 ∗ barPay c 2) -∗ wpAt c (k ⟨⟩) Q)
      -∗ wpAt c (.op (.semWait barS (3#32 : BitVec 32).toInt) k) Q) := by
  iintro #HE ⟨%W, HO⟩ Hat Hc Hk
  ihave #HI := (env_inv A R K (c, none)) $$ HE
  ihave #Hlev := (env_lev A R K) $$ HE
  iapply (Rounds.wp_wait_rest_token 𝒱₀ ER (sched A R) (c : Thread nD τ) none (κ := K (c, none))
      (wpE_semWait_eq 𝒱₀ (c : Thread nD τ) none Set.univ) (Set.mem_univ _) () (O := owedFrom c 0) (W := W) (R := 0) (m := 0) (T := ∅)
      (by rw [expect_bar]; decide)) $$ [Hc HO Hat]
  · isplitr; · iexact HI
    isplitl [Hc]; · iexact Hc
    isplitl [HO]; · iexact HO
    isplitr
    · iapply (mayWait_from (F := F) c (.reg barS) 0 (by rw [show lv ((c : Thread nD τ), .reg barS) () = _ from lv_cell c none]; show 1 < 2; omega)); iexact Hlev
    iexact Hat
  iintro ⟨HO, Hat, -, Hpay⟩
  ihave Hpay := (show iprop([∗ (sched A R).duties (c.tc, SemLoc.reg barS) 0 \ ∅] d, (sched A R).payload (c.tc, SemLoc.reg barS) 0 d)
    ⊢ (iprop(barPay c 0 ∗ barPay c 1 ∗ barPay c 2) : sProp 𝕄) from Entails.of_eq (rest_bar A R c)) $$ Hpay
  iapply Hk
  isplitl [HO]; · iexists _; iexact HO
  isplitl [Hat] <;> iassumption

end Send

end Cert.CubeProof

end
-- ==== Proof.Prog.lean ====
/-
The kernel's body written once per kind of step.

The printed body repeats the same few steps for each column part, each expert and each transfer. Here each kind of step is
one program over its part or transfer, and the printed body is shown to be their sequence.
-/
module

public import proofs.«01_k».proof.Proof.Ops

@[expose] public section

noncomputable section

namespace Cert.CubeProof

open Cert.KernelIdeal Cert.KernelIdeal.Gen
open Idealize.ShloMosaic Idealize.ShloMosaic.TcCoe
open Idealize.SL.Sem

variable {F : FTy → Type} [FloatOps F]

/-- A program of the kernel's core. -/
abbrev Pg (F : FTy → Type) [FloatOps F] (α : Type) : Type 1 := Prog (TpuEff nD τ sig (Elt F) Λ₀ .tc) α

abbrev xM : Memref sig .tc .vmem S2048x512 .f32 := Memref.whole cc0_stg0_0
abbrev rM : Memref sig .tc .vmem S512x64 .f32 := Memref.whole cc0_stg1_0
abbrev iM : Memref sig .tc .vmem S2048x1 .i32 := Memref.whole cc0_stg2_0
abbrev eM : Memref sig .tc .vmem S8x512x1024 .f32 := Memref.whole cc0_stg3_0
abbrev wM : Memref sig .tc .vmem S512x1024 .f32 := Memref.whole cc0_stg4_0

/-! ## Where each step reads and writes -/

/-- Where transfer `t`'s rows start on device `c`. -/
def offS (t : Xf) (c : Dev nD) : Fin 2 → ℕ :=
  ![![k0_off1 c, k0_off2 c, k0_off3 c], ![k0_off5 c, k0_off7 c, k0_off9 c], ![k0_off11 c, k0_off13 c, k0_off15 c],
    ![k0_off18 c, k0_off21 c, k0_off24 c], ![k0_off25 c, k0_off26 c, k0_off27 c], ![k0_off28 c, k0_off29 c, k0_off30 c]] t.1 t.2
/-- The device transfer `t` goes to, as the program counts it. -/
def devS (t : Xf) (c : Dev nD) : ℕ :=
  ![![k0_dev4 c, k0_dev5 c, k0_dev6 c], ![k0_dev7 c, k0_dev8 c, k0_dev9 c], ![k0_dev10 c, k0_dev11 c, k0_dev12 c],
    ![k0_dev13 c, k0_dev14 c, k0_dev15 c], ![k0_dev16 c, k0_dev17 c, k0_dev18 c], ![k0_dev19 c, k0_dev20 c, k0_dev21 c]] t.1 t.2
/-- The device the entry signal of axis `a` goes to. -/
def devB (a : Fin 3) (c : Dev nD) : ℕ := ![k0_dev1 c, k0_dev2 c, k0_dev3 c] a
/-- Where the rows device `c` keeps after halving `k` of part `p` start. -/
def offK (t : Xf) (c : Dev nD) : Fin 2 → ℕ :=
  ![![k0_off4 c, k0_off6 c, k0_off8 c], ![k0_off10 c, k0_off12 c, k0_off14 c], ![k0_off16 c, k0_off19 c, k0_off22 c],
    ![0, 0, 0], ![0, 0, 0], ![0, 0, 0]] t.1 t.2
/-- Where the rows of `x` for part `p`'s shared product start. -/
def offX (p : Fin 3) (c : Dev nD) : Fin 2 → ℕ := ![k0_off17 c, k0_off20 c, k0_off23 c] p

theorem offS_eq (t : Xf) (c : Dev nD) : offS t c = ![srcAt t c, colAt t.2] := by revert t c; decide +kernel
theorem devS_eq (t : Xf) (c : Dev nD) : devS t c = (peer t c).val := by revert t c; decide +kernel
theorem devB_eq (a : Fin 3) (c : Dev nD) : devB a c = (nbr a c).val := by revert a c; decide +kernel
theorem offK_eq (t : Xf) (h : t.1.val < 3) (c : Dev nD) : offK t c = ![keepAt t.2 (t.1.val + 1) c, colAt t.2] := by revert t c; decide +kernel
theorem offX_eq (p : Fin 3) (c : Dev nD) : offX p c = ![keepAt p 3 c, 0] := by revert p c; decide +kernel
theorem devS_lt (t : Xf) (c : Dev nD) : devS t c < nD := by rw [devS_eq]; exact (peer t c).isLt
theorem devB_lt (a : Fin 3) (c : Dev nD) : devB a c < nD := by rw [devB_eq]; exact (nbr a c).isLt

theorem fits {r w : ℕ} {off sz : Fin 2 → ℕ} {R W a b : ℕ} (ho : off = ![r, w]) (hs : sz = ![R, W]) (h0 : r + R ≤ a) (h1 : w + W ≤ b) :
    ∀ i, off i + sz i ≤ (⟨2, ![a, b]⟩ : Shape).size i := by
  subst ho hs; intro i; fin_cases i
  · exact h0
  · exact h1

theorem offS_inb (t : Xf) (c : Dev nD) : ∀ i, offS t c i + (![rowsOf t, colW t.2] : Fin 2 → ℕ) i ≤ S2048x1024.size i :=
  fits (offS_eq t c) rfl (srcAt_le t c) (colAt_le t.2)
theorem offK_inb (t : Xf) (h : t.1.val < 3) (c : Dev nD) : ∀ i, offK t c i + (![rowsOf t, colW t.2] : Fin 2 → ℕ) i ≤ S2048x1024.size i :=
  fits (offK_eq t h c) rfl (by
    have := keepAt_le t.2 ⟨t.1.val + 1, by omega⟩ c
    simpa only [rowsOf, if_pos h] using this) (colAt_le t.2)
theorem stage_inb (t : Xf) (h : t.1.val < 3) : ∀ i, (![stageAt t.1, colAt t.2] : Fin 2 → ℕ) i + (![rowsOf t, colW t.2] : Fin 2 → ℕ) i ≤ S1792x1024.size i :=
  fits rfl rfl (by
    have := stageAt_le ⟨t.1.val, h⟩
    simpa only [rowsOf, if_pos h] using this) (colAt_le t.2)
theorem part_inb (p : Fin 3) : ∀ i, (![0, colAt p] : Fin 2 → ℕ) i + (![2048, colW p] : Fin 2 → ℕ) i ≤ S2048x1024.size i :=
  fits rfl rfl (by decide) (colAt_le p)
theorem wcol_inb (p : Fin 3) : ∀ i, (![0, colAt p] : Fin 2 → ℕ) i + (![512, colW p] : Fin 2 → ℕ) i ≤ S512x1024.size i :=
  fits rfl rfl (by decide) (colAt_le p)
theorem offX_inb (p : Fin 3) (c : Dev nD) : ∀ i, offX p c i + S256x512.size i ≤ S2048x512.size i :=
  fits (offX_eq p c) rfl (by have := keepAt_le p 3 c; exact this) (by decide)
theorem eblk_inb (p : Fin 3) (j : Fin 8) : ∀ i, (![j.val, 0, colAt p] : Fin 3 → ℕ) i + (![1, 512, colW p] : Fin 3 → ℕ) i ≤ S8x512x1024.size i := by
  revert p j; decide

theorem pos_blk {r : ℕ} (h : 0 < r) (p : Fin 3) : 0 < (⟨2, ![r, colW p]⟩ : Shape).numel := by
  have : 0 < colW p := by revert p; decide
  rw [Shape.numel, Fin.prod_univ_two]; exact Nat.mul_pos h this

/-! ## The values -/

/-- The device's own index, as the program computes it. -/
abbrev me (c : Dev nD) : BitVec 32 := Scalar.remsi (Scalar.divsi (Dev.word c) 1#32) 8#32

/-- Each row's weight for local expert `j`: its probability where the row is routed to it, and zero elsewhere. -/
abbrev coef (c : Dev nD) (j : ℕ) (ix : IVec S2048x1 32) (ps : FVec F S2048x1 .f32) : FVec F S2048x1 .f32 :=
  select (cmpi .eq ix (broadcast S2048x1 (Scalar.addi (Scalar.muli (me c) 8#32) (BitVec.ofNat 32 j)))) ps
    (broadcast S2048x1 (Scalar.ofBits .f32 0x00000000#32))

theorem bc_ok (p : Fin 3) : S2048x1.Broadcasts ⟨2, ![2048, colW p]⟩ := by revert p; decide
theorem sc_e (p : Fin 3) : (⟨3, ![1, 512, colW p]⟩ : Shape).ShapeCasts ⟨2, ![512, colW p]⟩ := by revert p; decide
theorem sc_refl (s : Shape) : s.ShapeCasts s := rfl

/-- One expert's weighted product on the columns of part `p`. -/
abbrev term (p : Fin 3) (X : FVec F S2048x512 .f32) (k : FVec F S2048x1 .f32) (W : FVec F ⟨3, ![1, 512, colW p]⟩ .f32) : FVec F ⟨2, ![2048, colW p]⟩ .f32 :=
  mulf (broadcastTo ⟨2, ![2048, colW p]⟩ k (bc_ok p))
    (matmul (DotDims.plain 2048 512 (colW p)) none X (shapeCast ⟨2, ![512, colW p]⟩ W (sc_e p)) (constant ⟨2, ![2048, colW p]⟩ .f32 0x00000000#32))

/-! ## The programs -/

abbrev eRect (p : Fin 3) (j : Fin 8) : Rect S8x512x1024 := Rect.unit (s := S8x512x1024) ![j.val, 0, colAt p] ![1, 512, colW p] (eblk_inb p j)
abbrev pRect (p : Fin 3) : Rect S2048x1024 := Rect.unit (s := S2048x1024) ![0, colAt p] ![2048, colW p] (part_inb p)
abbrev sRect (t : Xf) (c : Dev nD) : Rect S2048x1024 := Rect.unit (s := S2048x1024) (offS t c) ![rowsOf t, colW t.2] (offS_inb t c)
abbrev kRect (t : Xf) (h : t.1.val < 3) (c : Dev nD) : Rect S2048x1024 := Rect.unit (s := S2048x1024) (offK t c) ![rowsOf t, colW t.2] (offK_inb t h c)
abbrev gRect (t : Xf) (h : t.1.val < 3) : Rect S1792x1024 := Rect.unit (s := S1792x1024) ![stageAt t.1, colAt t.2] ![rowsOf t, colW t.2] (stage_inb t h)

theorem pos_e (p : Fin 3) : 0 < (⟨3, ![1, 512, colW p]⟩ : Shape).numel := by revert p; decide

def loadE (p : Fin 3) (j : Fin 8) : Pg F (Vec F ⟨3, ![1, 512, colW p]⟩ .f32) :=
  Prog.lift (.load eM (eRect p j).toLoadRect (View.loadsAt_vmem (pos_e p)))
def loadP (p : Fin 3) : Pg F (Vec F ⟨2, ![2048, colW p]⟩ .f32) :=
  Prog.lift (.load outM (pRect p).toLoadRect (View.loadsAt_vmem (pos_blk (by decide) p)))
def storeP (p : Fin 3) (v : FVec F ⟨2, ![2048, colW p]⟩ .f32) : Pg F PUnit :=
  Prog.lift (.store outM (pRect p) v Finset.univ (View.stores_vmem_bits_univ (pos_blk (by decide) p) rfl) (.inl rfl))

/-- The experts `0 … j` of a device on the columns of part `p`. -/
def experts (c : Dev nD) (X : FVec F S2048x512 .f32) (ix : IVec S2048x1 32) (ps : FVec F S2048x1 .f32) (p : Fin 3) : (j : ℕ) → j < 8 → Pg F PUnit
  | 0, h => do
    let W ← loadE p ⟨0, h⟩
    let _ ← loadP p
    storeP p (term p X (coef c 0 ix ps) W)
  | j + 1, h => do
    experts c X ix ps p j (by omega)
    let W ← loadE p ⟨j + 1, h⟩
    let a ← loadP p
    let _ ← loadP p
    storeP p (addf (shapeCast ⟨2, ![2048, colW p]⟩ a (sc_refl _)) (term p X (coef c (j + 1) ix ps) W))

/-- Start transfer `t`: a reduction step into the peer's staging rows, a gather step into the same rows of its result. -/
def send (t : Xf) (c : Dev nD) : Pg F PUnit :=
  if h : t.1.val < 3 then
    Prog.lift (.enqueueDma (outM.slice (sRect t c) (fun _ => rfl)) (.remote (Dev.tc (⟨devS t c, devS_lt t c⟩ : Dev nD))
      (comM.slice (gRect t h) (fun _ => rfl)) (.dma (sendS t))) (.dma (recvS t)) (View.wordExact_bits rfl) (View.wordExact_bits rfl) ⟨⟨rfl, Or.inl rfl⟩, trivial⟩)
  else
    Prog.lift (.enqueueDma (outM.slice (sRect t c) (fun _ => rfl)) (.remote (Dev.tc (⟨devS t c, devS_lt t c⟩ : Dev nD))
      (outM.slice (sRect t c) (fun _ => rfl)) (.dma (sendS t))) (.dma (recvS t)) (View.wordExact_bits rfl) (View.wordExact_bits rfl) ⟨⟨rfl, Or.inl rfl⟩, trivial⟩)

/-- Wait for transfer `t`'s send and for its receipt: a reduction step waits on its staging rows, a gather step on the
result's. -/
def await (t : Xf) (c : Dev nD) : Pg F PUnit :=
  if h : t.1.val < 3 then do
    Prog.lift (.waitDma2 (sendS t) (comM.slice (gRect t h) (fun _ => rfl)) (outM.slice (sRect t c) (fun _ => rfl)) (View.wordExact_bits rfl) (View.wordExact_bits rfl))
    Prog.lift (.waitDma2 (recvS t) (outM.slice (sRect t c) (fun _ => rfl)) (comM.slice (gRect t h) (fun _ => rfl)) (View.wordExact_bits rfl) (View.wordExact_bits rfl))
  else do
    Prog.lift (.waitDma2 (sendS t) (outM.slice (sRect t c) (fun _ => rfl)) (outM.slice (sRect t c) (fun _ => rfl)) (View.wordExact_bits rfl) (View.wordExact_bits rfl))
    Prog.lift (.waitDma2 (recvS t) (outM.slice (sRect t c) (fun _ => rfl)) (outM.slice (sRect t c) (fun _ => rfl)) (View.wordExact_bits rfl) (View.wordExact_bits rfl))

/-- Add the received rows of reduction step `t` to the rows kept. -/
def accum (t : Xf) (h : t.1.val < 3) (c : Dev nD) : Pg F PUnit := do
  let a : Vec F ⟨2, ![rowsOf t, colW t.2]⟩ .f32 ← Prog.lift (.load outM (kRect t h c).toLoadRect (View.loadsAt_vmem (pos_blk (rowsOf_pos t) t.2)))
  let b : Vec F ⟨2, ![rowsOf t, colW t.2]⟩ .f32 ← Prog.lift (.load comM (gRect t h).toLoadRect (View.loadsAt_vmem (pos_blk (rowsOf_pos t) t.2)))
  let _ ← Prog.lift (.load outM (kRect t h c).toLoadRect (View.loadsAt_vmem (pos_blk (rowsOf_pos t) t.2)))
  Prog.lift (.store outM (kRect t h c) (addf (shapeCast ⟨2, ![rowsOf t, colW t.2]⟩ a (sc_refl _)) b) Finset.univ
    (View.stores_vmem_bits_univ (pos_blk (rowsOf_pos t) t.2) rfl) (.inl rfl))

/-- The shared product of 256 rows on the columns of part `p`. -/
abbrev sharedTerm (p : Fin 3) (X : FVec F S256x512 .f32) (W : FVec F ⟨2, ![512, colW p]⟩ .f32) : FVec F ⟨2, ![256, colW p]⟩ .f32 :=
  matmul (DotDims.plain 256 512 (colW p)) none (shapeCast S256x512 X (sc_refl _)) (shapeCast ⟨2, ![512, colW p]⟩ W (sc_refl _)) (constant ⟨2, ![256, colW p]⟩ .f32 0x00000000#32)

theorem own_inb (p : Fin 3) (c : Dev nD) : ∀ i, offK (2, p) c i + (![256, colW p] : Fin 2 → ℕ) i ≤ S2048x1024.size i :=
  fits (offK_eq (2, p) (show (2 : ℕ) < 3 by decide) c) rfl (keepAt_le p 3 c) (colAt_le p)
abbrev oRect (p : Fin 3) (c : Dev nD) : Rect S2048x1024 := Rect.unit (s := S2048x1024) (offK (2, p) c) ![256, colW p] (own_inb p c)
theorem pos_w (p : Fin 3) : 0 < (⟨2, ![512, colW p]⟩ : Shape).numel := pos_blk (by decide) p
abbrev xRect (p : Fin 3) (c : Dev nD) : Rect S2048x512 := Rect.unit (s := S2048x512) (offX p c) S256x512.size (offX_inb p c)
abbrev wRect (p : Fin 3) : Rect S512x1024 := Rect.unit (s := S512x1024) ![0, colAt p] ![512, colW p] (wcol_inb p)

/-- Add the shared product to the device's own 256 rows of part `p`. -/
def shared (p : Fin 3) (c : Dev nD) : Pg F PUnit := do
  let a : Vec F ⟨2, ![256, colW p]⟩ .f32 ← Prog.lift (.load outM (oRect p c).toLoadRect (View.loadsAt_vmem (pos_blk (by decide) p)))
  let X : Vec F S256x512 .f32 ← Prog.lift (.load xM (xRect p c).toLoadRect (View.loadsAt_vmem h_S256x512))
  let W : Vec F ⟨2, ![512, colW p]⟩ .f32 ← Prog.lift (.load wM (wRect p).toLoadRect (View.loadsAt_vmem (pos_w p)))
  let _ ← Prog.lift (.load outM (oRect p c).toLoadRect (View.loadsAt_vmem (pos_blk (by decide) p)))
  Prog.lift (.store outM (oRect p c) (addf (shapeCast ⟨2, ![256, colW p]⟩ a (sc_refl _)) (sharedTerm p X W)) Finset.univ
    (View.stores_vmem_bits_univ (pos_blk (by decide) p) rfl) (.inl rfl))

/-- Finish transfer `t` and, before the last step, start the part's next one. -/
def finish (t : Xf) (c : Dev nD) : Pg F PUnit := do
  await t c
  if h : t.1.val < 3 then accum t h c else pure ⟨⟩
  if t.1.val = 2 then shared t.2 c else pure ⟨⟩
  if h : t.1.val < 5 then send (⟨t.1.val + 1, by omega⟩, t.2) c else pure ⟨⟩

/-- The transfer numbered `n`. -/
abbrev xf (n : ℕ) (h : n < 18) : Xf := (⟨n / 3, by omega⟩, ⟨n % 3, Nat.mod_lt _ (by decide)⟩)

/-- The last `m` transfers finished, in order. -/
def exchange (c : Dev nD) : (m : ℕ) → m ≤ 18 → Pg F PUnit
  | 0, _ => pure ⟨⟩
  | m + 1, h => do finish (xf (17 - m) (by omega)) c; exchange c m (by omega)

/-- The experts' products of the parts before `n`, each part's first transfer started as soon as it is done. -/
def produce (c : Dev nD) (X : FVec F S2048x512 .f32) (ix : IVec S2048x1 32) (ps : FVec F S2048x1 .f32) : (n : ℕ) → n ≤ 3 → Pg F PUnit
  | 0, _ => pure ⟨⟩
  | n + 1, h => do produce c X ix ps n (by omega); experts c X ix ps ⟨n, h⟩ 7 (by decide); send (0, ⟨n, h⟩) c

def signal (a : Fin 3) (c : Dev nD) : Pg F PUnit := semSignalWord (⟨devB a c, devB_lt a c⟩ : Dev nD) barS 1#32

/-- The body: the entry signals and wait, the routing probabilities, the experts' products, the exchange. -/
def body : Pg F PUnit := do
  let c : Dev nD ← Prog.lift .deviceId
  signal 0 c
  signal 1 c
  signal 2 c
  semWaitWord barS 3#32
  let x : Vec F S2048x512 .f32 ← Prog.lift (.load xM (Rect.unit (s := S2048x512) ![0, 0] S2048x512.size inb_S2048x512_S2048x512_0_0).toLoadRect (View.loadsAt_vmem h_S2048x512))
  let w : Vec F S512x64 .f32 ← Prog.lift (.load rM (Rect.unit (s := S512x64) ![0, 0] S512x64.size inb_S512x64_S512x64_0_0).toLoadRect (View.loadsAt_vmem h_S512x64))
  let i : Vec F S2048x1 .i32 ← Prog.lift (.load iM (Rect.unit (s := S2048x1) ![0, 0] S2048x1.size inb_S2048x1_S2048x1_0_0).toLoadRect (View.loadsAt_vmem h_S2048x1))
  produce c (k0_pay1 x) (k0_pay2 (F := F) i) (k0_pay3 x w i) 3 (by decide)
  exchange c 18 (by decide)

/-- Two programs are equal when their first operations are and what follows is. -/
theorem op_congr {α β : Type} {e e' : TpuEff nD τ sig (Elt F) Λ₀ .tc β} {k k' : β → Pg F α} (he : e = e') (hk : ∀ b, k b = k' b) :
    (Prog.op e k : Pg F α) = Prog.op e' k' := by rw [he, funext hk]

set_option maxHeartbeats 1000000 in
set_option maxRecDepth 65536 in
/-- The printed body is this sequence of steps. -/
theorem body_eq : cc0_body (F := F) xM (Memref.isWhole_whole _) rM (Memref.isWhole_whole _) iM (Memref.isWhole_whole _) eM (Memref.isWhole_whole _)
    wM (Memref.isWhole_whole _) outM (Memref.isWhole_whole _) comM (Memref.isWhole_whole _) cc0_scratch1 cc0_scratch2 cc0_scratch3 cc0_scratch4 = body := by
  rw [cc0_body_eq_skeleton]
  repeat refine op_congr rfl fun _ => ?_
  rfl

end Cert.CubeProof
-- ==== Proof.Value.lean ====
/-
What the kernel leaves in its result, from what every device's inputs hold.

`E p c j` is the sum of device `c`'s experts `0 … j` on the columns of part `p`; `A p k c` is the result buffer of device
`c` on those columns after `k` halving steps, correct on the rows it keeps; `R` is the result, the same on every device.
-/
module

public import proofs.«01_k».proof.Proof.Prog

@[expose] public section

noncomputable section

namespace Cert.CubeProof

open Cert.KernelIdeal Cert.KernelIdeal.Gen
open Idealize.ShloMosaic Idealize.ShloMosaic.TcCoe

variable {F : FTy → Type} [FloatOps F]

/-- What each device's input blocks hold. -/
structure Ins (F : FTy → Type) [FloatOps F] where
  x : Dev nD → Vec F S2048x512 .f32
  r : Dev nD → Vec F S512x64 .f32
  i : Dev nD → Vec F S2048x1 .i32
  e : Dev nD → Vec F S8x512x1024 .f32
  w : Dev nD → Vec F S512x1024 .f32

variable (I : Ins F)

/-- Each row's probability of the expert it is routed to. -/
abbrev psel (c : Dev nD) : FVec F S2048x1 .f32 := k0_pay3 (I.x c) (I.r c) (I.i c)

/-- The columns of part `p` of local expert `j`'s weights. -/
abbrev eSl (p : Fin 3) (c : Dev nD) (j : Fin 8) : FVec F ⟨3, ![1, 512, colW p]⟩ .f32 := fun x => I.e c ((eRect p j).emb x)

/-- One expert's weighted product. -/
abbrev eTerm (p : Fin 3) (c : Dev nD) (j : Fin 8) : FVec F ⟨2, ![2048, colW p]⟩ .f32 :=
  term p (k0_pay1 (I.x c)) (coef c j (k0_pay2 (F := F) (I.i c)) (psel I c)) (eSl I p c j)

/-- The sum of the device's experts `0 … j`. -/
def E (p : Fin 3) (c : Dev nD) : (j : ℕ) → j < 8 → FVec F ⟨2, ![2048, colW p]⟩ .f32
  | 0, h => eTerm I p c ⟨0, h⟩
  | j + 1, h => addf (E p c j (by omega)) (eTerm I p c ⟨j + 1, h⟩)

theorem colW_pos (p : Fin 3) : 0 < colW p := by revert p; decide

/-- An index inside a block of `n` rows and the columns of a part. -/
def ixBlk (n : ℕ) (hn : 0 < n) (p : Fin 3) (r o : ℕ) : (⟨2, ![n, colW p]⟩ : Shape).Idx :=
  fun a => match a with | 0 => ⟨r % n, Nat.mod_lt _ hn⟩ | 1 => ⟨o % colW p, Nat.mod_lt _ (colW_pos p)⟩

/-- A block of a part's columns as contents of the whole result. -/
def spread (p : Fin 3) (v : FVec F ⟨2, ![2048, colW p]⟩ .f32) : OutC F :=
  fun i => v (ixBlk 2048 (by decide) p (i 0).val ((i 1).val - colAt p))

/-- The sums of part `p` on device `c` after `k` halving steps. -/
def A (p : Fin 3) : ℕ → Dev nD → OutC F
  | 0, c => spread p (E I p c 7 (by decide))
  | k + 1, c => fun i => FloatOps.addf (φ := .f32) (A p k c i) (A p k (nbr (axisAt k p) c) i)

/-- The shared product of the 256 rows device `c` owns in part `p`. -/
abbrev sTerm (p : Fin 3) (c : Dev nD) : FVec F ⟨2, ![256, colW p]⟩ .f32 :=
  sharedTerm p (fun x => I.x c ((xRect p c).emb x)) (fun x => I.w c ((wRect p).emb x))

/-- The part a column belongs to. -/
def partOf (o : ℕ) : Fin 3 := if o < 384 then 0 else if o < 768 then 1 else 2

/-- Part `p`'s columns of the result: the owner's sums and shared product. -/
def Rp (p : Fin 3) : OutC F := fun i =>
  FloatOps.addf (φ := .f32) (A I p 3 (owner p ((i 0).val / 256)) i)
    (sTerm I p (owner p ((i 0).val / 256)) (ixBlk 256 (by decide) p ((i 0).val) ((i 1).val - colAt p)))

/-- The result. -/
def R : OutC F := fun i => Rp I (partOf (i 1).val) i

theorem partOf_eq (p : Fin 3) {o : ℕ} (h : colAt p ≤ o) (h' : o < colAt p + colW p) : partOf o = p := by
  revert h h'; unfold partOf
  fin_cases p <;> simp only [colAt, colW] <;> intro h h' <;> (repeat' split) <;> first | rfl | (exfalso; simp at *; omega)

theorem R_on (p : Fin 3) (i : S2048x1024.Idx) (h : colAt p ≤ (i 1).val) (h' : (i 1).val < colAt p + colW p) : R I i = Rp I p i := by
  unfold R; rw [partOf_eq p h h']

end Cert.CubeProof
-- ==== Proof.Steps.lean ====
/-
Each kind of step of the body, run on one device.
-/
module

public import proofs.«01_k».proof.Proof.Value
public import Idealize.ShloMosaic.Lib.Pipeline.Value

@[expose] public section

noncomputable section

namespace Cert.CubeProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem wpAt_ret {α : Type} {Q : α → sProp 𝕄} (c : Dev nD) (a : α) : Q a ⊢ wpAt (F := F) c (.ret a) Q := by
  show Q a ⊢ wp _ _ _ _ _
  rw [wp_ret]; exact fupd_intro
theorem wpAt_bind {α β : Type} {Q : β → sProp 𝕄} (c : Dev nD) (p : Prog (TpuEff nD τ sig (Elt F) Λ₀ .tc) α) (k : α → Prog (TpuEff nD τ sig (Elt F) Λ₀ .tc) β) :
    wpAt c p (fun a => wpAt c (k a) Q) ⊢ wpAt c (p >>= k) Q := by
  show wp _ _ _ _ _ ⊢ wp _ _ _ _ _
  rw [wp_bind]

/-! ## Loads and stores -/

/-- The VMEM buffer `i`. -/
abbrev vref (i : Fin (sig.nNear .tc .vmem)) (h : sig.names .tc .vmem i = true) : Ref sig .tc := ⟨.vmem, i, h⟩

/-- Load a rectangle of a buffer held in part. -/
theorem wp_ld {α : Type} {Q : α → sProp 𝕄} (c : Dev nD) {i : Fin (sig.nNear .tc .vmem)} {hi : sig.names .tc .vmem i = true} (r : Rect (vref i hi).ty.shape)
    {S : Finset (vref i hi).ty.shape.Idx} (hS : (r.set : Finset (vref i hi).ty.shape.Idx) ⊆ S)
    {hl : (Memref.whole (vref i hi)).view.LoadsAt r.toLoadRect} {f : (vref i hi).ty.Contents (Elt F)}
    {k : (r.shape.Idx → Elt F (vref i hi).ty.elt) → Prog (TpuEff nD τ sig (Elt F) Λ₀ .tc) α} :
    iprop(((c : Thread nD τ).loc (vref i hi)) ↦[S]{fullShare} f)
      ⊢ iprop(((((c : Thread nD τ).loc (vref i hi)) ↦[S]{fullShare} f) -∗ wpAt c (k (fun x => f (r.emb x))) Q)
        -∗ wpAt c (.op (.load (Memref.whole (vref i hi)) r.toLoadRect hl) k) Q) :=
  wp_load_rect (defs := defs₀ (F := F)) 𝒱₀ (c : Thread nD τ) none Set.univ (m := Memref.whole (vref i hi)) (r := r) (hl := hl) (k := k) (f := f) (S := S)
    (by rw [View.set_slice_whole]; exact hS)

/-- Load the rows `[r, r + h)`, columns `[o, o + w)` of the result. -/
theorem wp_ldO {α : Type} {Q : α → sProp 𝕄} (c : Dev nD) {r h o w : ℕ} {off sz : Fin 2 → ℕ} {inb} (hoff : off = ![r, o]) (hsz : sz = ![h, w]) {f : OutC F}
    {hl : outM.view.LoadsAt (rct (n := 2048) off sz inb).toLoadRect}
    {k : ((rct (n := 2048) off sz inb).shape.Idx → Elt F .f32) → Prog (TpuEff nD τ sig (Elt F) Λ₀ .tc) α} :
    outOn c (blk r h o w) f
      ⊢ iprop((outOn c (blk r h o w) f -∗ wpAt c (k (fun x => f ((rct (n := 2048) off sz inb).emb x))) Q)
        -∗ wpAt c (.op (.load outM (rct (n := 2048) off sz inb).toLoadRect hl) k) Q) := by
  unfold outOn
  exact wp_ld c _ (unit_set off sz inb hoff hsz).subset

/-- Load a rectangle of the staging buffer. -/
theorem wp_ldC {α : Type} {Q : α → sProp 𝕄} (c : Dev nD) {r h o w : ℕ} {off sz : Fin 2 → ℕ} {inb} (hoff : off = ![r, o]) (hsz : sz = ![h, w]) {f : ComC F}
    {hl : comM.view.LoadsAt (rct (n := 1792) off sz inb).toLoadRect}
    {k : ((rct (n := 1792) off sz inb).shape.Idx → Elt F .f32) → Prog (TpuEff nD τ sig (Elt F) Λ₀ .tc) α} :
    comOn c (blk r h o w) f
      ⊢ iprop((comOn c (blk r h o w) f -∗ wpAt c (k (fun x => f ((rct (n := 1792) off sz inb).emb x))) Q)
        -∗ wpAt c (.op (.load comM (rct (n := 1792) off sz inb).toLoadRect hl) k) Q) := by
  unfold comOn
  exact wp_ld c _ (unit_set off sz inb hoff hsz).subset

/-- Store into a rectangle of the result; what it then holds may be any contents that agree with the stored block. -/
theorem wp_stO {α : Type} {Q : α → sProp 𝕄} (c : Dev nD) {r h o w : ℕ} {off sz : Fin 2 → ℕ} {inb} (hoff : off = ![r, o]) (hsz : sz = ![h, w]) {f g : OutC F}
    {v : (rct (n := 2048) off sz inb).shape.Idx → Elt F .f32} (hg : ∀ x, g ((rct (n := 2048) off sz inb).emb x) = v x)
    {hx : (outM.access (rct (n := 2048) off sz inb)).Stores Finset.univ} {hm : Finset.univ = Finset.univ ∨ ∀ a, (rct (n := 2048) off sz inb).stride a = 1}
    {k : PUnit → Prog (TpuEff nD τ sig (Elt F) Λ₀ .tc) α} :
    outOn c (blk r h o w) f
      ⊢ iprop((outOn c (blk r h o w) g -∗ wpAt c (k ⟨⟩) Q)
        -∗ wpAt c (.op (.store outM (rct (n := 2048) off sz inb) v Finset.univ hx hm) k) Q) := by
  have hset : ((outM.access (rct (n := 2048) off sz inb)).set : Finset S2048x1024.Idx) = blk r h o w := out_slice_set hoff hsz
  have hgf : outOn (F := F) c (blk r h o w) ((outM.access (rct (n := 2048) off sz inb)).write (Elt F) f v Finset.univ) = outOn c (blk r h o w) g :=
    outOn_congr fun i hi => by
      have hi : i ∈ ((outM.access (rct (n := 2048) off sz inb)).set : Finset S2048x1024.Idx) := by rw [hset]; exact hi
      obtain ⟨x, -, rfl⟩ := Finset.mem_map.mp hi
      exact (View.write_emb_of_mem _ _ (Finset.mem_univ x)).trans (hg x).symm
  rw [← hgf]
  unfold outOn
  exact wp_store (defs := defs₀ (F := F)) 𝒱₀ (c : Thread nD τ) none Set.univ (m := outM) (r := rct (n := 2048) off sz inb) (w := v) (Mk := Finset.univ) (hx := hx) (hm := hm) (k := k) (f := f)
    (S := blk r h o w) hset.subset

/-! ## The inputs -/

variable (I : Ins F)

def xOn (c : Dev nD) : sProp 𝕄 := ((c : Thread nD τ).loc cc0_stg0_0) ↦[Finset.univ]{fullShare} (I.x c)
def rOn (c : Dev nD) : sProp 𝕄 := ((c : Thread nD τ).loc cc0_stg1_0) ↦[Finset.univ]{fullShare} (I.r c)
def iOn (c : Dev nD) : sProp 𝕄 := ((c : Thread nD τ).loc cc0_stg2_0) ↦[Finset.univ]{fullShare} (I.i c)
def eOn (c : Dev nD) : sProp 𝕄 := ((c : Thread nD τ).loc cc0_stg3_0) ↦[Finset.univ]{fullShare} (I.e c)
def wOn (c : Dev nD) : sProp 𝕄 := ((c : Thread nD τ).loc cc0_stg4_0) ↦[Finset.univ]{fullShare} (I.w c)

theorem wp_ldX {α : Type} {Q : α → sProp 𝕄} (c : Dev nD) (r : Rect S2048x512) {hl : xM.view.LoadsAt r.toLoadRect}
    {k : (r.shape.Idx → Elt F .f32) → Prog (TpuEff nD τ sig (Elt F) Λ₀ .tc) α} :
    xOn I c ⊢ iprop((xOn I c -∗ wpAt c (k (fun x => I.x c (r.emb x))) Q) -∗ wpAt c (.op (.load xM r.toLoadRect hl) k) Q) := by
  unfold xOn; exact wp_ld c _ (Finset.subset_univ _)
theorem wp_ldR {α : Type} {Q : α → sProp 𝕄} (c : Dev nD) (r : Rect S512x64) {hl : rM.view.LoadsAt r.toLoadRect}
    {k : (r.shape.Idx → Elt F .f32) → Prog (TpuEff nD τ sig (Elt F) Λ₀ .tc) α} :
    rOn I c ⊢ iprop((rOn I c -∗ wpAt c (k (fun x => I.r c (r.emb x))) Q) -∗ wpAt c (.op (.load rM r.toLoadRect hl) k) Q) := by
  unfold rOn; exact wp_ld c _ (Finset.subset_univ _)
theorem wp_ldI {α : Type} {Q : α → sProp 𝕄} (c : Dev nD) (r : Rect S2048x1) {hl : iM.view.LoadsAt r.toLoadRect}
    {k : (r.shape.Idx → Elt F .i32) → Prog (TpuEff nD τ sig (Elt F) Λ₀ .tc) α} :
    iOn I c ⊢ iprop((iOn I c -∗ wpAt c (k (fun x => I.i c (r.emb x))) Q) -∗ wpAt c (.op (.load iM r.toLoadRect hl) k) Q) := by
  unfold iOn; exact wp_ld c _ (Finset.subset_univ _)
theorem wp_ldE {α : Type} {Q : α → sProp 𝕄} (c : Dev nD) (r : Rect S8x512x1024) {hl : eM.view.LoadsAt r.toLoadRect}
    {k : (r.shape.Idx → Elt F .f32) → Prog (TpuEff nD τ sig (Elt F) Λ₀ .tc) α} :
    eOn I c ⊢ iprop((eOn I c -∗ wpAt c (k (fun x => I.e c (r.emb x))) Q) -∗ wpAt c (.op (.load eM r.toLoadRect hl) k) Q) := by
  unfold eOn; exact wp_ld c _ (Finset.subset_univ _)
theorem wp_ldW {α : Type} {Q : α → sProp 𝕄} (c : Dev nD) (r : Rect S512x1024) {hl : wM.view.LoadsAt r.toLoadRect}
    {k : (r.shape.Idx → Elt F .f32) → Prog (TpuEff nD τ sig (Elt F) Λ₀ .tc) α} :
    wOn I c ⊢ iprop((wOn I c -∗ wpAt c (k (fun x => I.w c (r.emb x))) Q) -∗ wpAt c (.op (.load wM r.toLoadRect hl) k) Q) := by
  unfold wOn; exact wp_ld c _ (Finset.subset_univ _)

/-! ## The experts -/

theorem spread_emb (p : Fin 3) (v : FVec F ⟨2, ![2048, colW p]⟩ .f32) (x : (pRect p).shape.Idx) : spread p v ((pRect p).emb x) = v x := by
  unfold spread
  refine congrArg v (funext fun a => ?_)
  have h0 : (x 0).val < 2048 := (x 0).isLt
  have h1 : (x 1).val < colW p := (x 1).isLt
  match a with
  | 0 =>
    refine Fin.ext ?_
    show ((pRect p).emb x 0).val % 2048 = (x 0).val
    rw [emb_val _ _ (part_inb p) x 0]
    show (0 + (x 0).val) % 2048 = _
    omega
  | 1 =>
    refine Fin.ext ?_
    show (((pRect p).emb x 1).val - colAt p) % colW p = (x 1).val
    rw [emb_val _ _ (part_inb p) x 1]
    show (colAt p + (x 1).val - colAt p) % colW p = _
    rw [Nat.add_sub_cancel_left, Nat.mod_eq_of_lt h1]

theorem own_zero (p : Fin 3) (c : Dev nD) (f : OutC F) : own p 0 c f = outOn (F := F) c (blk 0 2048 (colAt p) (colW p)) f := rfl

/-- A device's experts `0 … j` leave their sum on the columns of the part. -/
theorem wp_experts (p : Fin 3) (c : Dev nD) : ∀ (j : ℕ) (h : j < 8) {Q : PUnit → sProp 𝕄},
    iprop((∃ f, own p 0 c f) ∗ eOn I c)
      ⊢ iprop(((own p 0 c (spread p (E I p c j h)) ∗ eOn I c) -∗ Q ⟨⟩)
        -∗ wpAt c (experts c (k0_pay1 (I.x c)) (k0_pay2 (F := F) (I.i c)) (psel I c) p j h) Q)
  | 0, h, Q => by
    simp only [experts, loadE, loadP, storeP, Prog.lift, Prog.bind_op, Prog.bind_ret, own_zero]
    iintro ⟨⟨%f, Ho⟩, He⟩ Hk
    iapply (wp_ldE I c (eRect p ⟨0, h⟩)) $$ He
    iintro He
    iapply (wp_ldO c (r := 0) (h := 2048) (o := colAt p) (w := colW p) rfl rfl) $$ Ho
    iintro Ho
    iapply (wp_stO c (r := 0) (h := 2048) (o := colAt p) (w := colW p) rfl rfl (spread_emb p _)) $$ Ho
    iintro Ho
    iapply (wpAt_ret c)
    iapply Hk; isplitl [Ho]
    · iexact Ho
    · iexact He
  | j + 1, h, Q => by
    have ih := wp_experts p c j (by omega) (Q := fun _ => wpAt c (do
      let W ← loadE p ⟨j + 1, h⟩
      let a ← loadP p
      let _ ← loadP p
      storeP p (addf (shapeCast ⟨2, ![2048, colW p]⟩ a (sc_refl _)) (term p (k0_pay1 (I.x c)) (coef c (j + 1) (k0_pay2 (F := F) (I.i c)) (psel I c)) W))) Q)
    rw [experts]
    iintro Hoe Hk
    iapply (wpAt_bind c)
    iapply ih $$ Hoe
    simp only [loadE, loadP, storeP, Prog.lift, Prog.bind_op, Prog.bind_ret, own_zero]
    iintro ⟨Ho, He⟩
    iapply (wp_ldE I c (eRect p ⟨j + 1, h⟩)) $$ He
    iintro He
    iapply (wp_ldO c (r := 0) (h := 2048) (o := colAt p) (w := colW p) rfl rfl) $$ Ho
    iintro Ho
    iapply (wp_ldO c (r := 0) (h := 2048) (o := colAt p) (w := colW p) rfl rfl) $$ Ho
    iintro Ho
    iapply (wp_stO c (r := 0) (h := 2048) (o := colAt p) (w := colW p) rfl rfl (g := spread p (E I p c (j + 1) h)) (fun x => (spread_emb p _ x).trans (by
      rw [shapeCast_self]
      show _ = FloatOps.addf (spread p _ ((pRect p).emb x)) _
      rw [spread_emb]; rfl))) $$ Ho
    iintro Ho
    iapply (wpAt_ret c)
    iapply Hk; isplitl [Ho]
    · iexact Ho
    · iexact He

/-! ## The transfers -/

theorem credit (t : Xf) : RefSig.tileCredit ⟨2, ![rowsOf t, colW t.2]⟩ .f32 = amt t := by revert t; decide +kernel
theorem credit_out (t : Xf) (off : Fin 2 → ℕ) (inb) : (outM.slice (rct (n := 2048) off ![rowsOf t, colW t.2] inb) (fun _ => rfl)).view.dmaCredit = amt t := credit t
theorem credit_com (t : Xf) (off : Fin 2 → ℕ) (inb) : (comM.slice (rct (n := 1792) off ![rowsOf t, colW t.2] inb) (fun _ => rfl)).view.dmaCredit = amt t := credit t

variable (K : CK → ℕ)

/-- Start reduction step `t`. -/
theorem wp_send_rs {Q : PUnit → sProp 𝕄} (t : Xf) (h : t.1.val < 3) (c : Dev nD) {q r : ℕ} (hq : q ≤ num t) :
    env (A I) (R I) K ⊢ iprop(bk c (num t) q r -∗ own t.2 t.1 c (A I t.2 t.1 c) -∗ slot t (peer t c)
      -∗ ((bk c (num t + 1) q r ∗ own t.2 (t.1 + 1) c (A I t.2 t.1 c)) -∗ Q ⟨⟩) -∗ wpAt c (send t c) Q) := by
  simp only [send, dif_pos h, Prog.lift]
  iintro #HE Hb Ho Hs Hk
  iapply (wp_rs (A I) (R I) K c ⟨devS t c, devS_lt t c⟩ ⟨t.1.val, h⟩ t rfl (Fin.ext (devS_eq t c)) hq (offS_eq t c) rfl rfl rfl rfl
    (credit_com t _ (stage_inb t h))) $$ HE Hb Ho Hs
  iintro H
  iapply (wpAt_ret c)
  iapply Hk; iexact H

/-- Start gather step `t`. -/
theorem wp_send_ag {Q : PUnit → sProp 𝕄} (t : Xf) (h : ¬ t.1.val < 3) (c : Dev nD) {q r : ℕ} (hq : q ≤ num t) :
    env (A I) (R I) K ⊢ iprop(bk c (num t) q r -∗ own t.2 (6 - t.1.val) c (R I) -∗ hole (mirror t) (peer t c)
      -∗ (bk c (num t + 1) q r -∗ Q ⟨⟩) -∗ wpAt c (send t c) Q) := by
  simp only [send, dif_neg h, Prog.lift]
  iintro #HE Hb Ho Hs Hk
  iapply (wp_ag (A I) (R I) K c ⟨devS t c, devS_lt t c⟩ t (by omega) (Fin.ext (devS_eq t c)) hq (offS_eq t c) rfl rfl rfl
    (credit_out t _ (offS_inb t c))) $$ HE Hb Ho Hs
  iintro H
  iapply (wpAt_ret c)
  iapply Hk; iexact H

/-- Wait for reduction step `t`: the sent rows have landed, and the receipt brings the peer's sums and the rows it sent. -/
theorem wp_await_rs {Q : PUnit → sProp 𝕄} (t : Xf) (h : t.1.val < 3) (c : Dev nD) {a : ℕ} (ha : num t < a) :
    env (A I) (R I) K ⊢ iprop(bk c a (num t) (num t)
      -∗ ((bk c a (num t + 1) (num t + 1) ∗ landing (A I) t c ∗ hole t (peer t c)) -∗ Q ⟨⟩) -∗ wpAt c (await t c) Q) := by
  simp only [await, dif_pos h, Prog.lift, Prog.bind_op, Prog.bind_ret]
  iintro #HE Hb Hk
  iapply (wp_waitS (A I) (R I) K c t ha rfl (credit_out t _ (offS_inb t c))) $$ HE Hb
  iintro ⟨Hb, -⟩
  iapply (wp_waitR (A I) (R I) K c t ha rfl (credit_com t _ (stage_inb t h))) $$ HE Hb
  iintro ⟨Hb, Hp⟩
  iapply (wpAt_ret c)
  iapply Hk; isplitl [Hb]; · iexact Hb
  ihave Hp := (show recvPay (A I) (R I) t c ⊢ iprop(landing (A I) t c ∗ hole t (peer t c)) from by unfold recvPay; rw [if_pos h]) $$ Hp
  iexact Hp

/-- Wait for gather step `t`: the device holds the result on twice the rows. -/
theorem wp_await_ag {Q : PUnit → sProp 𝕄} (t : Xf) (h : ¬ t.1.val < 3) (c : Dev nD) {a : ℕ} (ha : num t < a) :
    env (A I) (R I) K ⊢ iprop(bk c a (num t) (num t)
      -∗ ((bk c a (num t + 1) (num t + 1) ∗ own t.2 (5 - t.1.val) c (R I)) -∗ Q ⟨⟩) -∗ wpAt c (await t c) Q) := by
  simp only [await, dif_neg h, Prog.lift, Prog.bind_op, Prog.bind_ret]
  iintro #HE Hb Hk
  iapply (wp_waitS (A I) (R I) K c t ha rfl (credit_out t _ (offS_inb t c))) $$ HE Hb
  iintro ⟨Hb, Hs⟩
  iapply (wp_waitR (A I) (R I) K c t ha rfl (credit_out t _ (offS_inb t c))) $$ HE Hb
  iintro ⟨Hb, Hp⟩
  iapply (wpAt_ret c)
  iapply Hk; isplitl [Hb]; · iexact Hb
  iapply (own_join (A I) (R I) t (by omega) c)
  isplitl [Hs] <;> iassumption

/-- A transfer lands at the rows its receiver keeps. -/
theorem srcAt_peer (t : Xf) (h : t.1.val < 3) (c : Dev nD) : srcAt t (peer t c) = keepAt t.2 (t.1.val + 1) c := by
  unfold srcAt; rw [if_pos h]; exact sendAt_nbr t.2 ⟨t.1.val, h⟩ c
theorem rowsOf_rs (t : Xf) (h : t.1.val < 3) : rowsOf t = rowsAt (t.1.val + 1) := by unfold rowsOf; rw [if_pos h]

/-- What a reduction step lands, read at the rows it is added to. -/
theorem landF_emb (t : Xf) (h : t.1.val < 3) (c : Dev nD) (x : (kRect t h c).shape.Idx) :
    A I t.2 t.1 (peer t c) ((kRect t h c).emb x) = landF (A I) t c ((gRect t h).emb x) := by
  unfold landF
  have h0 : (x 0).val < rowsOf t := (x 0).isLt
  have h1 : (x 1).val < colW t.2 := (x 1).isLt
  have hr := srcAt_le t (peer t c)
  have hc := colAt_le t.2
  refine congrArg _ (idx_ext ?_ ?_)
  · show _ = _ % 2048
    rw [emb_val _ _ (offK_inb t h c) x 0, emb_val _ _ (stage_inb t h) x 0]
    show offK t c 0 + (x 0).val = (stageAt t.1 + (x 0).val - stageAt t.1 + srcAt t (peer t c)) % 2048
    have k0 : offK t c 0 = keepAt t.2 (t.1.val + 1) c := congrFun (offK_eq t h c) 0
    have := srcAt_peer t h c
    omega
  · show _ = _ % 1024
    rw [emb_val _ _ (offK_inb t h c) x 1, emb_val _ _ (stage_inb t h) x 1]
    show offK t c 1 + (x 1).val = (colAt t.2 + (x 1).val) % 1024
    have k1 : offK t c 1 = colAt t.2 := congrFun (offK_eq t h c) 1
    omega

/-- Add the received rows to the kept ones. -/
theorem wp_accum {Q : PUnit → sProp 𝕄} (t : Xf) (h : t.1.val < 3) (c : Dev nD) :
    iprop(own t.2 (t.1.val + 1) c (A I t.2 t.1 c)) ⊢ iprop(landing (A I) t c
      -∗ ((own t.2 (t.1.val + 1) c (A I t.2 (t.1.val + 1) c) ∗ slot t c) -∗ Q ⟨⟩) -∗ wpAt c (accum t h c) Q) := by
  simp only [accum, Prog.lift, Prog.bind_op, Prog.bind_ret, own, landing, ← rowsOf_rs t h]
  iintro Ho Hl Hk
  iapply (wp_ldO c (offK_eq t h c) rfl) $$ Ho
  iintro Ho
  iapply (wp_ldC c rfl rfl) $$ Hl
  iintro Hl
  iapply (wp_ldO c (offK_eq t h c) rfl) $$ Ho
  iintro Ho
  iapply (wp_stO c (offK_eq t h c) rfl (g := A I t.2 (t.1.val + 1) c) (fun x => by
    rw [shapeCast_self]
    exact congrArg (FloatOps.addf (φ := .f32) (A I t.2 t.1 c ((kRect t h c).emb x))) (landF_emb I t h c x))) $$ Ho
  iintro Ho
  iapply (wpAt_ret c)
  iapply Hk; isplitl [Ho]; · iexact Ho
  unfold slot; iexists _; iexact Hl

/-- The result at the rows a device owns. -/
theorem R_emb (p : Fin 3) (c : Dev nD) (x : (oRect p c).shape.Idx) :
    R I ((oRect p c).emb x) = FloatOps.addf (φ := .f32) (A I p 3 c ((oRect p c).emb x)) (sTerm I p c x) := by
  have h0 : (x 0).val < 256 := (x 0).isLt
  have h1 : (x 1).val < colW p := (x 1).isLt
  have hk := keepAt_three p c
  have e0 : ((oRect p c).emb x 0).val = keepAt p 3 c + (x 0).val := by
    rw [emb_val _ _ (own_inb p c) x 0]
    exact congrArg (· + (x 0).val) (congrFun (offK_eq (2, p) (show (2 : ℕ) < 3 by decide) c) 0)
  have e1 : ((oRect p c).emb x 1).val = colAt p + (x 1).val := by
    rw [emb_val _ _ (own_inb p c) x 1]
    exact congrArg (· + (x 1).val) (congrFun (offK_eq (2, p) (show (2 : ℕ) < 3 by decide) c) 1)
  rw [R_on I p _ (by rw [e1]; omega) (by rw [e1]; omega)]
  unfold Rp
  have ho : owner p (((oRect p c).emb x 0).val / 256) = c := owner_row p c (by rw [e0]; omega) (by rw [e0]; omega)
  rw [ho]
  refine congrArg _ (congrArg (sTerm I p c) (funext fun a => ?_))
  match a with
  | 0 =>
    refine Fin.ext ?_
    show ((oRect p c).emb x 0).val % 256 = (x 0).val
    rw [e0]; omega
  | 1 =>
    refine Fin.ext ?_
    show (((oRect p c).emb x 1).val - colAt p) % colW p = (x 1).val
    rw [e1, Nat.add_sub_cancel_left, Nat.mod_eq_of_lt h1]

/-- Add the shared product to the rows a device owns: they hold the result. -/
theorem wp_shared {Q : PUnit → sProp 𝕄} (p : Fin 3) (c : Dev nD) :
    iprop(own p 3 c (A I p 3 c)) ⊢ iprop(xOn I c -∗ wOn I c
      -∗ ((own p 3 c (R I) ∗ xOn I c ∗ wOn I c) -∗ Q ⟨⟩) -∗ wpAt c (shared p c) Q) := by
  have ho : offK (2, p) c = ![keepAt p 3 c, colAt p] := offK_eq (2, p) (show (2 : ℕ) < 3 by decide) c
  simp only [shared, Prog.lift, Prog.bind_op, Prog.bind_ret, own, show rowsAt 3 = 256 from rfl]
  iintro Ho Hx Hw Hk
  iapply (wp_ldO c ho rfl) $$ Ho
  iintro Ho
  iapply (wp_ldX I c (xRect p c)) $$ Hx
  iintro Hx
  iapply (wp_ldW I c (wRect p)) $$ Hw
  iintro Hw
  iapply (wp_ldO c ho rfl) $$ Ho
  iintro Ho
  iapply (wp_stO c ho rfl (g := R I) (fun x => by rw [shapeCast_self]; exact R_emb I p c x)) $$ Ho
  iintro Ho
  iapply (wpAt_ret c)
  iapply Hk; isplitl [Ho]; · iexact Ho
  isplitl [Hx] <;> iassumption

end Cert.CubeProof
-- ==== Proof.Body.lean ====
/-
The exchange and the body, run on one device.

`partSt p s c` is what device `c` holds of column part `p` while transfer `(s, p)` is in flight (`s = 6`: when all are
done): its rows of the result, the landing regions of the peers it may still send into, the peers' rows it will refill
and its own landing regions come back.
-/
module

public import proofs.«01_k».proof.Proof.Steps

@[expose] public section

noncomputable section

namespace Cert.CubeProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : CK → ℕ)

/-! ## What is held of a part -/

/-- Transfer `t`'s landing region on its peer, and the rows its peer sends in it. -/
def there (t : Xf) (c : Dev nD) : sProp 𝕄 := slot t (peer t c)
def gap (t : Xf) (c : Dev nD) : sProp 𝕄 := hole t (peer t c)

def res (p : Fin 3) (s : ℕ) (c : Dev nD) : sProp 𝕄 :=
  if s < 3 then own p (s + 1) c (A I p s c) else if s < 6 then iprop(emp) else own p 0 c (R I)

def side (p : Fin 3) (c : Dev nD) : ℕ → sProp 𝕄
  | 0 => iprop(there (1, p) c ∗ there (2, p) c)
  | 1 => iprop(there (2, p) c ∗ slot (0, p) c ∗ gap (0, p) c)
  | 2 => iprop(slot (0, p) c ∗ gap (0, p) c ∗ slot (1, p) c ∗ gap (1, p) c)
  | 3 => iprop(slot (0, p) c ∗ gap (0, p) c ∗ slot (1, p) c ∗ gap (1, p) c ∗ slot (2, p) c)
  | 4 => iprop(slot (0, p) c ∗ gap (0, p) c ∗ slot (1, p) c ∗ slot (2, p) c)
  | _ => iprop(slot (0, p) c ∗ slot (1, p) c ∗ slot (2, p) c)

def partSt (p : Fin 3) (s : ℕ) (c : Dev nD) : sProp 𝕄 := iprop(res I p s c ∗ side p c s)

/-- The next transfer of the same part. -/
abbrev nx (t : Xf) (h : t.1.val < 5) : Xf := (⟨t.1.val + 1, by omega⟩, t.2)

/-- Halving: the landing region comes back, the peer's rows are gained, and the next landing region is used. -/
theorem side_rs (t : Xf) (h : t.1.val < 2) (c : Dev nD) :
    iprop(side (F := F) t.2 c t.1.val ∗ slot t c ∗ gap t c) ⊢ iprop(side t.2 c (t.1.val + 1) ∗ there (nx t (by omega)) c) := by
  obtain ⟨⟨s, hs⟩, p⟩ := t
  replace h : s < 2 := h
  obtain rfl | rfl : s = 0 ∨ s = 1 := by omega
  · show iprop((there (1, p) c ∗ there (2, p) c) ∗ slot (0, p) c ∗ gap (0, p) c) ⊢ iprop((there (2, p) c ∗ slot (0, p) c ∗ gap (0, p) c) ∗ there (1, p) c)
    iintro ⟨⟨H1, H2⟩, H3, H4⟩
    isplitr [H1]
    · isplitl [H2]; · iexact H2
      isplitl [H3] <;> iassumption
    · iexact H1
  · show iprop((there (2, p) c ∗ slot (0, p) c ∗ gap (0, p) c) ∗ slot (1, p) c ∗ gap (1, p) c) ⊢ iprop((slot (0, p) c ∗ gap (0, p) c ∗ slot (1, p) c ∗ gap (1, p) c) ∗ there (2, p) c)
    iintro ⟨⟨H0, H1, H2⟩, H3, H4⟩
    isplitr [H0]
    · isplitl [H1]; · iexact H1
      isplitl [H2]; · iexact H2
      isplitl [H3] <;> iassumption
    · iexact H0

/-- The last halving: its landing region comes back. -/
theorem side_mid (p : Fin 3) (c : Dev nD) : iprop(side (F := F) p c 2 ∗ slot (2, p) c) ⊢ side p c 3 := by
  show iprop((slot (0, p) c ∗ gap (0, p) c ∗ slot (1, p) c ∗ gap (1, p) c) ∗ slot (2, p) c) ⊢ iprop(slot (0, p) c ∗ gap (0, p) c ∗ slot (1, p) c ∗ gap (1, p) c ∗ slot (2, p) c)
  iintro ⟨⟨H0, H1, H2, H3⟩, H4⟩
  isplitl [H0]; · iexact H0
  isplitl [H1]; · iexact H1
  isplitl [H2]; · iexact H2
  isplitl [H3] <;> iassumption

/-- Gathering: the peer's rows to refill next are taken out. -/
theorem side_ag (t : Xf) (h : 3 ≤ t.1.val) (h' : t.1.val < 5) (c : Dev nD) :
    side (F := F) t.2 c t.1.val ⊢ iprop(side t.2 c (t.1.val + 1) ∗ gap (mirror (nx t h')) c) := by
  obtain ⟨⟨s, hs⟩, p⟩ := t
  replace h : 3 ≤ s := h
  replace h' : s < 5 := h'
  obtain rfl | rfl : s = 3 ∨ s = 4 := by omega
  · show iprop(slot (0, p) c ∗ gap (0, p) c ∗ slot (1, p) c ∗ gap (1, p) c ∗ slot (2, p) c) ⊢ iprop((slot (0, p) c ∗ gap (0, p) c ∗ slot (1, p) c ∗ slot (2, p) c) ∗ gap (1, p) c)
    iintro ⟨H0, H1, H2, H3, H4⟩
    isplitr [H3]
    · isplitl [H0]; · iexact H0
      isplitl [H1]; · iexact H1
      isplitl [H2] <;> iassumption
    · iexact H3
  · show iprop(slot (0, p) c ∗ gap (0, p) c ∗ slot (1, p) c ∗ slot (2, p) c) ⊢ iprop((slot (0, p) c ∗ slot (1, p) c ∗ slot (2, p) c) ∗ gap (0, p) c)
    iintro ⟨H0, H1, H2, H3⟩
    isplitr [H1]
    · isplitl [H0]; · iexact H0
      isplitl [H2] <;> iassumption
    · iexact H1

/-! ## Finishing a transfer -/

/-- A transfer finished: its semaphores are spent, the part's next transfer is in flight. -/
abbrev FinishGoal (t : Xf) (c : Dev nD) (a a' : ℕ) (Q : PUnit → sProp 𝕄) : Prop :=
  env (A I) (R I) K ⊢ iprop(bk c a (num t) (num t) -∗ partSt I t.2 t.1.val c -∗ xOn I c -∗ wOn I c
    -∗ ((bk c a' (num t + 1) (num t + 1) ∗ partSt I t.2 (t.1.val + 1) c ∗ xOn I c ∗ wOn I c) -∗ Q ⟨⟩)
    -∗ wpAt c (finish t c) Q)

theorem num_nx (t : Xf) (h : t.1.val < 5) : num (nx t h) = num t + 3 := by unfold num; show 3 * (t.1.val + 1) + t.2.val = 3 * t.1.val + t.2.val + 3; omega

theorem finish_rs (t : Xf) (h : t.1.val < 2) (c : Dev nD) {Q : PUnit → sProp 𝕄} : FinishGoal I K t c (num t + 3) (num t + 4) Q := by
  have h3 : t.1.val < 3 := by omega
  have h5 : t.1.val < 5 := by omega
  unfold FinishGoal partSt res
  simp only [finish, dif_pos h3, if_neg (show ¬ t.1.val = 2 by omega), dif_pos h5, if_pos h3, if_pos (show t.1.val + 1 < 3 by omega)]
  have hs := wp_send_rs (Q := Q) I K (nx t h5) (show t.1.val + 1 < 3 by omega) c (q := num t + 1) (r := num t + 1) (by rw [num_nx]; omega)
  rw [num_nx] at hs
  iintro #HE Hb ⟨Ho, Hs⟩ Hx Hw Hk
  iapply (wpAt_bind c)
  iapply (wp_await_rs I K t h3 c (a := num t + 3) (by omega)) $$ HE Hb
  iintro ⟨Hb, Hl, Hg⟩
  iapply (wpAt_bind c)
  iapply (wp_accum I t h3 c) $$ Ho Hl
  iintro ⟨Ho, Hsl⟩
  ihave Hs := (side_rs (F := F) t h c) $$ [Hs Hsl Hg]
  · isplitl [Hs]; · iexact Hs
    isplitl [Hsl]; · iexact Hsl
    unfold gap; iexact Hg
  icases Hs with ⟨Hs, Hth⟩
  unfold there
  iapply hs $$ HE Hb Ho Hth
  iintro ⟨Hb, Ho⟩
  iapply Hk
  isplitl [Hb]; · iexact Hb
  isplitl [Ho Hs]
  · isplitl [Ho] <;> iassumption
  isplitl [Hx] <;> iassumption

theorem wp_send_gap {Q : PUnit → sProp 𝕄} (t : Xf) (h : ¬ t.1.val < 3) (c : Dev nD) {q r : ℕ} (hq : q ≤ num t) :
    env (A I) (R I) K ⊢ iprop(bk c (num t) q r -∗ own t.2 (6 - t.1.val) c (R I) -∗ gap (mirror t) c
      -∗ (bk c (num t + 1) q r -∗ Q ⟨⟩) -∗ wpAt c (send t c) Q) := by
  unfold gap; rw [peer_mirror]; exact wp_send_ag I K t h c hq

theorem finish_mid (t : Xf) (h : t.1.val = 2) (c : Dev nD) {Q : PUnit → sProp 𝕄} : FinishGoal I K t c (num t + 3) (num t + 4) Q := by
  obtain ⟨s, p⟩ := t
  obtain rfl : s = 2 := Fin.ext h
  unfold FinishGoal partSt res
  simp only [finish, dif_pos (show ((2 : Fin 6).val : ℕ) < 3 by decide), if_pos (show ((2 : Fin 6).val : ℕ) = 2 from rfl), dif_pos (show ((2 : Fin 6).val : ℕ) < 5 by decide), if_pos (show ((2 : Fin 6).val : ℕ) < 3 by decide), if_neg (show ¬ (2 : Fin 6).val + 1 < 3 by decide), if_pos (show (2 : Fin 6).val + 1 < 6 by decide)]
  have hs : env (A I) (R I) K ⊢ iprop(bk c (num (2, p) + 3) (num (2, p) + 1) (num (2, p) + 1) -∗ own p 3 c (R I) -∗ hole (2, p) (peer (2, p) c)
      -∗ (bk c (num (2, p) + 4) (num (2, p) + 1) (num (2, p) + 1) -∗ Q ⟨⟩) -∗ wpAt c (send (nx (2, p) (show (2 : ℕ) < 5 by decide)) c) Q) := by
    have hs := wp_send_gap (Q := Q) I K (nx (2, p) (show (2 : ℕ) < 5 by decide)) (show ¬ (3 : ℕ) < 3 by decide) c (q := num (2, p) + 1) (r := num (2, p) + 1) (by rw [num_nx]; omega)
    rw [num_nx] at hs
    exact hs
  iintro #HE Hb ⟨Ho, Hs⟩ Hx Hw Hk
  iapply (wpAt_bind c)
  iapply (wp_await_rs I K (2, p) (show (2 : ℕ) < 3 by decide) c (a := num (2, p) + 3) (by omega)) $$ HE Hb
  iintro ⟨Hb, Hl, Hg⟩
  iapply (wpAt_bind c)
  iapply (wp_accum I (2, p) (show (2 : ℕ) < 3 by decide) c) $$ Ho Hl
  iintro ⟨Ho, Hsl⟩
  iapply (wpAt_bind c)
  ihave Ho := (show own ((2, p) : Xf).2 (((2, p) : Xf).1.val + 1) c (A I ((2, p) : Xf).2 (((2, p) : Xf).1.val + 1) c) ⊢ own p 3 c (A I p 3 c) from Entails.rfl) $$ Ho
  iapply (wp_shared I p c) $$ Ho Hx Hw
  iintro ⟨Ho, Hx, Hw⟩
  ihave Hs := (side_mid (F := F) p c) $$ [Hs Hsl]
  · isplitl [Hs]; · iexact Hs
    iexact Hsl
  iapply hs $$ HE Hb Ho Hg
  iintro Hb
  iapply Hk
  isplitl [Hb]; · iexact Hb
  isplitl [Hs]
  · isplitr; · iempintro
    iexact Hs
  isplitl [Hx] <;> iassumption

theorem finish_ag (t : Xf) (h : 3 ≤ t.1.val) (h5 : t.1.val < 5) (c : Dev nD) {Q : PUnit → sProp 𝕄} : FinishGoal I K t c (num t + 3) (num t + 4) Q := by
  have h3 : ¬ t.1.val < 3 := by omega
  unfold FinishGoal partSt res
  simp only [finish, dif_neg h3, if_neg (show ¬ t.1.val = 2 by omega), dif_pos h5, if_neg h3, if_pos (show t.1.val < 6 by omega), if_neg (show ¬ t.1.val + 1 < 3 by omega), if_pos (show t.1.val + 1 < 6 by omega)]
  have hs := wp_send_gap (Q := Q) I K (nx t h5) (show ¬ t.1.val + 1 < 3 by omega) c (q := num t + 1) (r := num t + 1) (by rw [num_nx]; omega)
  rw [num_nx, show 6 - (nx t h5).1.val = 5 - t.1.val from (show 6 - (t.1.val + 1) = 5 - t.1.val by omega)] at hs
  iintro #HE Hb ⟨-, Hs⟩ Hx Hw Hk
  iapply (wpAt_bind c)
  iapply (wp_await_ag I K t h3 c (a := num t + 3) (by omega)) $$ HE Hb
  iintro ⟨Hb, Ho⟩
  ihave Hs := (side_ag (F := F) t h h5 c) $$ Hs
  icases Hs with ⟨Hs, Hg⟩
  iapply hs $$ HE Hb Ho Hg
  iintro Hb
  iapply Hk
  isplitl [Hb]; · iexact Hb
  isplitl [Hs]
  · isplitr; · iempintro
    iexact Hs
  isplitl [Hx] <;> iassumption

theorem finish_last (t : Xf) (h : t.1.val = 5) (c : Dev nD) {Q : PUnit → sProp 𝕄} : FinishGoal I K t c 18 18 Q := by
  obtain ⟨s, p⟩ := t
  obtain rfl : s = 5 := Fin.ext h
  unfold FinishGoal partSt res
  simp only [finish, dif_neg (show ¬ ((5 : Fin 6).val : ℕ) < 3 by decide), if_neg (show ¬ ((5 : Fin 6).val : ℕ) = 2 by decide), dif_neg (show ¬ ((5 : Fin 6).val : ℕ) < 5 by decide), if_neg (show ¬ ((5 : Fin 6).val : ℕ) < 3 by decide), if_pos (show ((5 : Fin 6).val : ℕ) < 6 by decide), if_neg (show ¬ (5 : Fin 6).val + 1 < 3 by decide), if_neg (show ¬ (5 : Fin 6).val + 1 < 6 by decide)]
  iintro #HE Hb ⟨-, Hs⟩ Hx Hw Hk
  iapply (wpAt_bind c)
  iapply (wp_await_ag I K (5, p) (show ¬ (5 : ℕ) < 3 by decide) c (a := 18) (num_lt (5, p))) $$ HE Hb
  iintro ⟨Hb, Ho⟩
  iapply (wpAt_ret c)
  iapply Hk
  isplitl [Hb]; · iexact Hb
  isplitl [Ho Hs]
  · isplitl [Ho]; · iexact Ho
    iexact Hs
  isplitl [Hx] <;> iassumption

/-! ## The exchange -/

/-- How far part `p` is when the transfers before `n` are finished. -/
abbrev stepOf (n : ℕ) (p : Fin 3) : ℕ := (n + 2 - p.val) / 3

/-- What is held when the transfers before `n` are finished. -/
def Inv (c : Dev nD) (n : ℕ) : sProp 𝕄 :=
  iprop(bk c (min 18 (n + 3)) n n ∗ (bigSep Finset.univ fun p : Fin 3 => partSt I p (stepOf n p) c) ∗ xOn I c ∗ wOn I c)

/-- One part taken out, and put back changed when no other part changes. -/
theorem bigSep_part {Φ Ψ : Fin 3 → sProp 𝕄} (p : Fin 3) (h : ∀ q, q ≠ p → Φ q = Ψ q) :
    bigSep Finset.univ Φ ⊢ iprop(Φ p ∗ (Ψ p -∗ bigSep Finset.univ Ψ)) := by
  rw [bigSep_univ_at Φ p, bigSep_univ_at Ψ p, bigSep_congr (s := Finset.univ.erase p) (Φ := Φ) (Ψ := Ψ)
    fun q hq => h q (Finset.mem_erase.mp hq).1]
  iintro ⟨H, Hr⟩
  isplitl [H]; · iexact H
  iintro H; isplitl [H] <;> iassumption

theorem num_xf (n : ℕ) (h : n < 18) : num (xf n h) = n := by unfold num; show 3 * (n / 3) + n % 3 = n; omega

theorem finish_step (n : ℕ) (hn : n < 18) (c : Dev nD) {Q : PUnit → sProp 𝕄} :
    env (A I) (R I) K ⊢ iprop(Inv I c n -∗ (Inv I c (n + 1) -∗ Q ⟨⟩) -∗ wpAt c (finish (xf n hn) c) Q) := by
  have hf : FinishGoal I K (xf n hn) c (min 18 (n + 3)) (min 18 (n + 1 + 3)) Q := by
    have e := num_xf n hn
    by_cases h5 : n / 3 < 5
    · rw [show min 18 (n + 3) = num (xf n hn) + 3 by omega, show min 18 (n + 1 + 3) = num (xf n hn) + 4 by omega]
      by_cases h2 : n / 3 < 2
      · exact finish_rs I K (xf n hn) h2 c
      by_cases h3 : n / 3 = 2
      · exact finish_mid I K (xf n hn) h3 c
      · exact finish_ag I K (xf n hn) (show 3 ≤ n / 3 by omega) h5 c
    · rw [show min 18 (n + 3) = 18 by omega, show min 18 (n + 1 + 3) = 18 by omega]
      exact finish_last I K (xf n hn) (show n / 3 = 5 by omega) c
  have hp := bigSep_part (F := F) (Φ := fun p => partSt I p (stepOf n p) c) (Ψ := fun p => partSt I p (stepOf (n + 1) p) c) (xf n hn).2
    (fun q hq => by
      have hq' : q.val ≠ n % 3 := fun e => hq (Fin.ext e)
      have hq3 := q.isLt
      show partSt I q ((n + 2 - q.val) / 3) c = partSt I q ((n + 1 + 2 - q.val) / 3) c
      rw [show (n + 2 - q.val) / 3 = (n + 1 + 2 - q.val) / 3 by omega])
  rw [show stepOf n (xf n hn).2 = (xf n hn).1.val from (show (n + 2 - n % 3) / 3 = n / 3 by omega),
    show stepOf (n + 1) (xf n hn).2 = (xf n hn).1.val + 1 from (show (n + 1 + 2 - n % 3) / 3 = n / 3 + 1 by omega)] at hp
  unfold FinishGoal at hf
  rw [num_xf] at hf
  unfold Inv
  iintro #HE ⟨Hb, Hps, Hx, Hw⟩ Hk
  ihave Hps := hp $$ Hps
  icases Hps with ⟨Hp, Hps⟩
  iapply hf $$ HE Hb Hp Hx Hw
  iintro ⟨Hb, Hp, Hx, Hw⟩
  iapply Hk
  isplitl [Hb]; · iexact Hb
  isplitl [Hp Hps]
  · iapply Hps; iexact Hp
  isplitl [Hx] <;> iassumption

theorem wp_exchange (c : Dev nD) : ∀ (m : ℕ) (hm : m ≤ 18) {Q : PUnit → sProp 𝕄},
    env (A I) (R I) K ⊢ iprop(Inv I c (18 - m) -∗ (Inv I c 18 -∗ Q ⟨⟩) -∗ wpAt c (exchange c m hm) Q)
  | 0, _, Q => by
    simp only [exchange]
    iintro #HE Hi Hk
    iapply (wpAt_ret c)
    iapply Hk; iexact Hi
  | m + 1, hm, Q => by
    have ih := wp_exchange c m (by omega) (Q := Q)
    rw [show 18 - m = 17 - m + 1 by omega] at ih
    rw [exchange, show 18 - (m + 1) = 17 - m by omega]
    iintro #HE Hi Hk
    iapply (wpAt_bind c)
    iapply (finish_step I K (17 - m) _ c) $$ HE Hi
    iintro Hi
    iapply ih $$ HE Hi Hk

/-! ## The experts' products and the first transfers -/

/-- A part before its first transfer: its rows of the result and the peers' landing regions. -/
def fresh (p : Fin 3) (c : Dev nD) : sProp 𝕄 :=
  iprop((∃ f, own p 0 c f) ∗ there (0, p) c ∗ there (1, p) c ∗ there (2, p) c)

/-- What is held when the first transfers of the parts before `n` are started. -/
def Pre (c : Dev nD) (n : ℕ) : sProp 𝕄 :=
  iprop(bk c n 0 0 ∗ (bigSep Finset.univ fun p : Fin 3 => if p.val < n then partSt I p 0 c else fresh p c) ∗ eOn I c)

theorem partSt_zero (p : Fin 3) (c : Dev nD) : iprop(own p 1 c (A I p 0 c) ∗ there (1, p) c ∗ there (2, p) c) ⊢ partSt I p 0 c := by
  unfold partSt res; rw [if_pos (by decide)]; exact Entails.rfl

theorem wp_produce (c : Dev nD) : ∀ (n : ℕ) (hn : n ≤ 3) {Q : PUnit → sProp 𝕄},
    env (A I) (R I) K ⊢ iprop(Pre I c 0 -∗ (Pre I c n -∗ Q ⟨⟩)
      -∗ wpAt c (produce c (k0_pay1 (I.x c)) (k0_pay2 (F := F) (I.i c)) (psel I c) n hn) Q)
  | 0, _, Q => by
    simp only [produce]
    iintro #HE Hi Hk
    iapply (wpAt_ret c)
    iapply Hk; iexact Hi
  | n + 1, hn, Q => by
    have ih := fun Q' => wp_produce c n (by omega) (Q := Q')
    have hp := bigSep_part (F := F) (Φ := fun p : Fin 3 => if p.val < n then partSt I p 0 c else fresh p c)
      (Ψ := fun p : Fin 3 => if p.val < n + 1 then partSt I p 0 c else fresh p c) ⟨n, hn⟩
      (fun q hq => by
        have hq' : q.val ≠ n := fun e => hq (Fin.ext e)
        by_cases h : q.val < n
        · rw [if_pos h, if_pos (by omega)]
        · rw [if_neg h, if_neg (by omega)])
    rw [if_neg (show ¬ (⟨n, hn⟩ : Fin 3).val < n from Nat.lt_irrefl n), if_pos (show (⟨n, hn⟩ : Fin 3).val < n + 1 from Nat.lt_succ_self n)] at hp
    have hs := wp_send_rs (Q := Q) I K (0, ⟨n, hn⟩) (show (0 : ℕ) < 3 by decide) c (q := 0) (r := 0) (Nat.zero_le _)
    rw [show num (0, ⟨n, hn⟩) = n from Nat.zero_add n] at hs
    rw [produce]
    iintro #HE Hi Hk
    iapply (wpAt_bind c)
    iapply (ih _) $$ HE Hi
    unfold Pre
    iintro ⟨Hb, Hps, He⟩
    ihave Hps := hp $$ Hps
    icases Hps with ⟨Hf, Hps⟩
    unfold fresh there
    icases Hf with ⟨Ho, H0, H1, H2⟩
    iapply (wpAt_bind c)
    iapply (wp_experts I ⟨n, hn⟩ c 7 _) $$ [Ho He]
    · isplitl [Ho] <;> iassumption
    iintro ⟨Ho, He⟩
    ihave Ho := (show own ⟨n, hn⟩ 0 c (spread ⟨n, hn⟩ (E I ⟨n, hn⟩ c 7 _)) ⊢ own ⟨n, hn⟩ ((0 : Fin 6).val) c (A I ⟨n, hn⟩ ((0 : Fin 6).val) c) from Entails.rfl) $$ Ho
    iapply hs $$ HE Hb Ho H0
    iintro ⟨Hb, Ho⟩
    iapply Hk
    isplitl [Hb]; · iexact Hb
    isplitr [He]
    · iapply Hps
      iapply (partSt_zero I ⟨n, hn⟩ c)
      isplitl [Ho]; · iexact Ho
      unfold there
      isplitl [H1] <;> iassumption
    · iexact He

/-- When the three first transfers are started the exchange may begin. -/
theorem inv_zero (c : Dev nD) : iprop(Pre I c 3 ∗ xOn I c ∗ wOn I c) ⊢ iprop(Inv I c 0 ∗ eOn I c) := by
  unfold Pre Inv
  rw [bigSep_congr (s := Finset.univ) (Φ := fun p : Fin 3 => if p.val < 3 then partSt I p 0 c else fresh p c) (Ψ := fun p : Fin 3 => partSt I p (stepOf 0 p) c)
    (fun p _ => by rw [if_pos p.isLt, show stepOf 0 p = 0 from (show (0 + 2 - p.val) / 3 = 0 by omega)])]
  iintro ⟨⟨Hb, Hp, He⟩, Hx, Hw⟩
  isplitr [He]
  · isplitl [Hb]; · iexact Hb
    isplitl [Hp]; · iexact Hp
    isplitl [Hx] <;> iassumption
  · iexact He

end Cert.CubeProof
-- ==== Proof.Whole.lean ====
/-
The body on one device, from whole buffers to whole buffers.

The landing buffer is cut into the nine landing regions of the halving transfers and the result into its three column
parts; at the end they are put together again, and every semaphore is closed at zero.
-/
module

public import proofs.«01_k».proof.Proof.Body

@[expose] public section

noncomputable section

namespace Cert.CubeProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : CK → ℕ)

/-! ## The landing buffer -/

/-- Device `c`'s landing buffer on the indices `S`, at any contents. -/
def comAny (c : Dev nD) (S : Finset S1792x1024.Idx) : sProp 𝕄 := iprop(∃ f : ComC F, comOn c S f)

theorem comAny_split (c : Dev nD) {S T : Finset S1792x1024.Idx} (h : Disjoint S T) :
    comAny (F := F) c (S ∪ T) ⊢ iprop(comAny c S ∗ comAny c T) := by
  unfold comAny
  iintro ⟨%f, H⟩
  ihave H := (show comOn (F := F) c (S ∪ T) f ⊢ iprop(comOn c S f ∗ comOn c T f) from by unfold comOn; exact (pointsTo_union h).1) $$ H
  icases H with ⟨H1, H2⟩
  isplitl [H1]
  · iexists f; iexact H1
  · iexists f; iexact H2

theorem comAny_join (c : Dev nD) {S T : Finset S1792x1024.Idx} (h : Disjoint S T) :
    iprop(comAny (F := F) c S ∗ comAny c T) ⊢ comAny c (S ∪ T) := by
  classical
  unfold comAny
  iintro ⟨⟨%f, H1⟩, ⟨%g, H2⟩⟩
  iexists (fun i => if i ∈ S then f i else g i)
  ihave H1 := (Entails.of_eq (comOn_congr (F := F) (c := c) (S := S) (f := f) (g := fun i => if i ∈ S then f i else g i) fun i hi => (if_pos hi).symm)) $$ H1
  ihave H2 := (Entails.of_eq (comOn_congr (F := F) (c := c) (S := T) (f := g) (g := fun i => if i ∈ S then f i else g i)
    fun i hi => (if_neg fun h' => Finset.disjoint_left.mp h h' hi).symm)) $$ H2
  iapply (show iprop(comOn (F := F) c S (fun i => if i ∈ S then f i else g i) ∗ comOn c T (fun i => if i ∈ S then f i else g i))
    ⊢ comOn c (S ∪ T) (fun i => if i ∈ S then f i else g i) from by unfold comOn; exact (pointsTo_union h).2)
  isplitl [H1] <;> iassumption

theorem comAny_union (c : Dev nD) {S T : Finset S1792x1024.Idx} (h : Disjoint S T) :
    comAny (F := F) c (S ∪ T) = iprop(comAny c S ∗ comAny c T) := (comAny_split c h).antisymm (comAny_join c h)

/-- Three column parts, each of three landing regions. -/
def byPart (Φ : Xf → sProp 𝕄) : sProp 𝕄 := bigSep Finset.univ fun p : Fin 3 => iprop(Φ (0, p) ∗ Φ (1, p) ∗ Φ (2, p))
/-- Three axes, each crossed by three halving transfers. -/
def byAxis (Φ : Xf → sProp 𝕄) : sProp 𝕄 :=
  iprop((Φ (xfOn 0 0) ∗ Φ (xfOn 0 1) ∗ Φ (xfOn 0 2)) ∗ (Φ (xfOn 1 0) ∗ Φ (xfOn 1 1) ∗ Φ (xfOn 1 2)) ∗ (Φ (xfOn 2 0) ∗ Φ (xfOn 2 1) ∗ Φ (xfOn 2 2)))

theorem bigSep_three (Φ : Fin 3 → sProp 𝕄) : bigSep Finset.univ Φ = iprop(Φ 0 ∗ Φ 1 ∗ Φ 2) :=
  bigSep_univ_eq_bigSepL [0, 1, 2] (by decide) (by decide) Φ

theorem byPart_byAxis (Φ : Xf → sProp 𝕄) : byPart Φ ⊢ byAxis Φ := by
  unfold byPart byAxis; rw [bigSep_three]
  show iprop((Φ (0, 0) ∗ Φ (1, 0) ∗ Φ (2, 0)) ∗ (Φ (0, 1) ∗ Φ (1, 1) ∗ Φ (2, 1)) ∗ (Φ (0, 2) ∗ Φ (1, 2) ∗ Φ (2, 2)))
    ⊢ iprop((Φ (0, 0) ∗ Φ (1, 2) ∗ Φ (2, 1)) ∗ (Φ (0, 1) ∗ Φ (1, 0) ∗ Φ (2, 2)) ∗ (Φ (0, 2) ∗ Φ (1, 1) ∗ Φ (2, 0)))
  iintro ⟨⟨H00, H10, H20⟩, ⟨H01, H11, H21⟩, H02, H12, H22⟩
  isplitl [H00 H12 H21]
  · isplitl [H00]; · iexact H00
    isplitl [H12] <;> iassumption
  isplitl [H01 H10 H22]
  · isplitl [H01]; · iexact H01
    isplitl [H10] <;> iassumption
  isplitl [H02]; · iexact H02
  isplitl [H11] <;> iassumption

theorem byAxis_byPart (Φ : Xf → sProp 𝕄) : byAxis Φ ⊢ byPart Φ := by
  unfold byPart byAxis; rw [bigSep_three]
  show iprop((Φ (0, 0) ∗ Φ (1, 2) ∗ Φ (2, 1)) ∗ (Φ (0, 1) ∗ Φ (1, 0) ∗ Φ (2, 2)) ∗ (Φ (0, 2) ∗ Φ (1, 1) ∗ Φ (2, 0)))
    ⊢ iprop((Φ (0, 0) ∗ Φ (1, 0) ∗ Φ (2, 0)) ∗ (Φ (0, 1) ∗ Φ (1, 1) ∗ Φ (2, 1)) ∗ (Φ (0, 2) ∗ Φ (1, 2) ∗ Φ (2, 2)))
  iintro ⟨⟨H00, H12, H21⟩, ⟨H01, H10, H22⟩, H02, H11, H20⟩
  isplitl [H00 H10 H20]
  · isplitl [H00]; · iexact H00
    isplitl [H10] <;> iassumption
  isplitl [H01 H11 H21]
  · isplitl [H01]; · iexact H01
    isplitl [H11] <;> iassumption
  isplitl [H02]; · iexact H02
  isplitl [H12] <;> iassumption

/-- One column part of the landing buffer is the landing regions of its three halving transfers. -/
theorem com_part (p : Fin 3) (c : Dev nD) :
    comAny (F := F) c (blk 0 1792 (colAt p) (colW p)) = iprop(slot (0, p) c ∗ slot (1, p) c ∗ slot (2, p) c) := by
  rw [show (blk 0 1792 (colAt p) (colW p) : Finset S1792x1024.Idx) = blk 0 (1024 + (512 + 256)) (colAt p) (colW p) from rfl, blk_rows, comAny_union c blk_rows_disj, blk_rows, comAny_union c blk_rows_disj]
  have h0 : comBlk (0, p) = blk 0 1024 (colAt p) (colW p) := by unfold comBlk; rw [rowsOf_rs (0, p) (show (0 : ℕ) < 3 by decide)]; exact congrArg₂ (fun a b => blk a b (colAt p) (colW p)) (show stageAt 0 = 0 by decide) (show rowsAt 1 = 1024 by decide)
  have h1 : comBlk (1, p) = blk (0 + 1024) 512 (colAt p) (colW p) := by unfold comBlk; rw [rowsOf_rs (1, p) (show (1 : ℕ) < 3 by decide)]; exact congrArg₂ (fun a b => blk a b (colAt p) (colW p)) (show stageAt 1 = 0 + 1024 by decide) (show rowsAt 2 = 512 by decide)
  have h2 : comBlk (2, p) = blk (0 + 1024 + 512) 256 (colAt p) (colW p) := by unfold comBlk; rw [rowsOf_rs (2, p) (show (2 : ℕ) < 3 by decide)]; exact congrArg₂ (fun a b => blk a b (colAt p) (colW p)) (show stageAt 2 = 0 + 1024 + 512 by decide) (show rowsAt 3 = 256 by decide)
  rw [← h0, ← h1, ← h2]
  rfl

/-- The landing buffer is the nine landing regions. -/
theorem com_whole (c : Dev nD) : comAny (F := F) c Finset.univ = byPart fun t => slot t c := by
  unfold byPart
  rw [bigSep_three, ← com_part, ← com_part, ← com_part, ← blk_all, show (blk 0 1792 0 1024 : Finset S1792x1024.Idx) = blk 0 1792 0 (384 + (384 + 256)) from rfl,
    blk_cols, comAny_union c blk_cols_disj, blk_cols, comAny_union c blk_cols_disj]
  rfl

/-! ## The result -/

theorem out_union (c : Dev nD) {S T : Finset S2048x1024.Idx} {f : OutC F} (h : Disjoint S T) :
    outOn (F := F) c (S ∪ T) f = iprop(outOn c S f ∗ outOn c T f) := (outOn_union h).1.antisymm (outOn_union h).2

/-- The result is its three column parts. -/
theorem out_whole (c : Dev nD) (f : OutC F) : outOn (F := F) c Finset.univ f = bigSep Finset.univ fun p : Fin 3 => own p 0 c f := by
  rw [bigSep_three, ← blk_all, show (blk 0 2048 0 1024 : Finset S2048x1024.Idx) = blk 0 2048 0 (384 + (384 + 256)) from rfl,
    blk_cols, out_union c blk_cols_disj, blk_cols, out_union c blk_cols_disj]
  rfl

/-! ## The two ends of the exchange -/

/-- The result, and the landing regions the neighbours handed over, make the three parts ready to start. -/
theorem fresh_intro (c : Dev nD) (f : OutC F) :
    iprop(outOn c Finset.univ f ∗ barPay c 0 ∗ barPay c 1 ∗ barPay c 2) ⊢ bigSep Finset.univ fun p : Fin 3 => if p.val < 0 then partSt I p 0 c else fresh p c := by
  have hb (a : Fin 3) : barPay (F := F) c a = iprop(there (xfOn a 0) c ∗ there (xfOn a 1) c ∗ there (xfOn a 2) c) := by
    unfold barPay there; rw [peer_xfOn, peer_xfOn, peer_xfOn]
  rw [hb, hb, hb, out_whole]
  refine (sep_mono_right (byAxis_byPart fun t => there t c)).trans ?_
  unfold byPart
  rw [← bigSep_sep']
  refine bigSep_mono fun p _ => ?_
  rw [if_neg (Nat.not_lt_zero _)]
  unfold fresh
  show iprop(own p 0 c f ∗ there (0, p) c ∗ there (1, p) c ∗ there (2, p) c) ⊢ _
  iintro ⟨H, Hr⟩
  isplitl [H]; · iexists f; iexact H
  iexact Hr

/-- When every transfer is finished the result is whole, and so is the landing buffer. -/
theorem parts_end (c : Dev nD) :
    (bigSep Finset.univ fun p : Fin 3 => partSt I p (stepOf 18 p) c) ⊢ iprop(outOn c Finset.univ (R I) ∗ comAny c Finset.univ) := by
  rw [out_whole, com_whole]
  unfold byPart
  rw [← bigSep_sep']
  refine bigSep_mono fun p _ => ?_
  rw [show stepOf 18 p = 6 from (show (18 + 2 - p.val) / 3 = 6 by have := p.isLt; omega)]
  unfold partSt res
  rw [if_neg (by decide), if_neg (by decide)]
  exact Entails.refl _

/-! ## Bookkeeping -/

/-- The device's cells one kind at a time. -/
theorem cells_split (Φ : Option (Bool × Xf) → sProp 𝕄) :
    bigSep Finset.univ Φ = iprop(Φ none ∗ (bigSep Finset.univ fun t : Xf => Φ (some (false, t))) ∗ bigSep Finset.univ fun t : Xf => Φ (some (true, t))) := by
  rw [bigSep_univ_at Φ none, show (Finset.univ.erase none : Finset (Option (Bool × Xf))) = Finset.univ.map Function.Embedding.some from by
      ext k; cases k <;> simp, bigSep_map, bigSep_univ_prod, bigSep_univ_eq_bigSepL [false, true] (by decide) (by decide)]
  rfl

/-- What device `c` starts with: its positions, the tokens it pays with, the credits it will collect. -/
def linear (c : Dev nD) : sProp 𝕄 :=
  iprop(atPos ER (barCell c) 0 ∅ 0 ∗ (bigSep Finset.univ fun t : Xf => atPos ER (sendCell t c) 0 ∅ 0) ∗ (bigSep Finset.univ fun t : Xf => atPos ER (recvCell t c) 0 ∅ 0)
    ∗ (bigSep Finset.univ fun a : Fin 3 => dutyTok ER (barCell (nbr a c)) 0 a)
    ∗ (bigSep Finset.univ fun t : Xf => dutyTok ER (sendCell t c) 0 0) ∗ (bigSep Finset.univ fun t : Xf => dutyTok ER (recvCell t (peer t c)) 0 0))
def credits (c : Dev nD) : sProp 𝕄 :=
  iprop(cred (tallyAt (barCell c) () 3) ∗ bigSep Finset.univ fun t : Xf => cred (tallyAt (recvCell t c) () (amt t)))

theorem bk_start (c : Dev nD) :
    iprop((∃ W, owes (c : Thread nD τ) (owedFrom c 0) W)
      ∗ (bigSep Finset.univ fun t : Xf => atPos ER (sendCell t c) 0 ∅ 0) ∗ (bigSep Finset.univ fun t : Xf => dutyTok ER (sendCell t c) 0 0)
      ∗ (bigSep Finset.univ fun t : Xf => atPos ER (recvCell t c) 0 ∅ 0) ∗ (bigSep Finset.univ fun t : Xf => cred (tallyAt (recvCell t c) () (amt t)))
      ∗ (bigSep Finset.univ fun t : Xf => dutyTok ER (recvCell t (peer t c)) 0 0)) ⊢ bk (F := F) c 0 0 0 := by
  unfold bk
  rw [show sendE (F := F) c 0 0 = fun t => iprop(atPos ER (sendCell t c) 0 ∅ 0 ∗ dutyTok ER (sendCell t c) 0 0) from
      funext fun t => (if_neg (Nat.not_lt_zero _)).trans (if_neg (Nat.not_lt_zero _)),
    show recvE (F := F) c 0 = fun t => iprop(atPos ER (recvCell t c) 0 ∅ 0 ∗ cred (tallyAt (recvCell t c) () (amt t))) from funext fun t => if_neg (Nat.not_lt_zero _),
    show tokE (F := F) c 0 = fun t => dutyTok ER (recvCell t (peer t c)) 0 0 from funext fun t => if_neg (Nat.not_lt_zero _), bigSep_sep', bigSep_sep']
  iintro ⟨HO, H1, H2, H3, H4, H5⟩
  isplitl [HO]; · iexact HO
  isplitl [H1 H2]
  · isplitl [H1] <;> iassumption
  isplitl [H3 H4]
  · isplitl [H3] <;> iassumption
  iexact H5

theorem bk_end (c : Dev nD) :
    bk (F := F) c 18 18 18 ⊢ iprop((∃ W, owes (c : Thread nD τ) 0 W) ∗ (bigSep Finset.univ fun t : Xf => atPos ER (sendCell t c) 1 ∅ 0)
      ∗ bigSep Finset.univ fun t : Xf => atPos ER (recvCell t c) 1 ∅ 0) := by
  unfold bk
  rw [owedFrom_end, show sendE (F := F) c 18 18 = fun t => atPos ER (sendCell t c) 1 ∅ 0 from funext fun t => if_pos (num_lt t),
    show recvE (F := F) c 18 = fun t => atPos ER (recvCell t c) 1 ∅ 0 from funext fun t => if_pos (num_lt t)]
  iintro ⟨HO, H1, H2, -⟩
  isplitl [HO]; · iexact HO
  isplitl [H1] <;> iassumption

variable (A' : Fin 3 → ℕ → Dev nD → OutC F) (R' : OutC F)

/-- A persistent fact beside every summand. -/
theorem bigSep_under {J : Type} [DecidableEq J] {S : Finset J} {P : sProp 𝕄} [BI.Persistent P] {Φ Ψ : J → sProp 𝕄}
    (h : ∀ i ∈ S, iprop(P ∗ Φ i) ⊢ Ψ i) : iprop(P ∗ bigSep S Φ) ⊢ bigSep S Ψ :=
  (sep_mono_left (BI.bigSep_of_persistent S P)).trans (by rw [← bigSep_sep']; exact bigSep_mono h)

/-- Every semaphore past its one round closes at zero. -/
theorem close_all (c : Dev nD) :
    iprop(env A' R' K ∗ bigSep Finset.univ fun k : Option (Bool × Xf) => atPos ER (cell c k) 1 ∅ 0)
      ⊢ |={Set.univ}=> bigSep Finset.univ fun k : Option (Bool × Xf) => semVal (cell c k) 0 := by
  refine (bigSep_under (P := env A' R' K) (Ψ := fun k => iprop(|={Set.univ}=> semVal (cell c k) 0)) fun k _ => ?_).trans (bigSep_fupd _ _)
  refine (sep_mono_left (env_inv A' R' K (c, k))).trans ?_
  exact Rounds.cell_close ER (sched A' R') (Set.mem_univ (K (c, k))) (fun h => h) (R := 0 + 1) (duties_later A' R' (cell c k))

/-! ## The body -/

theorem xload (c : Dev nD) : (fun y => I.x c ((Rect.unit (s := S2048x512) ![0, 0] S2048x512.size inb_S2048x512_S2048x512_0_0).emb y)) = I.x c :=
  Memref.readAt_unit_zero (Elt F) cc0_stg0_0 (funext fun a => by fin_cases a <;> rfl) _ (I.x c)
theorem rload (c : Dev nD) : (fun y => I.r c ((Rect.unit (s := S512x64) ![0, 0] S512x64.size inb_S512x64_S512x64_0_0).emb y)) = I.r c :=
  Memref.readAt_unit_zero (Elt F) cc0_stg1_0 (funext fun a => by fin_cases a <;> rfl) _ (I.r c)
theorem iload (c : Dev nD) : (fun y => I.i c ((Rect.unit (s := S2048x1) ![0, 0] S2048x1.size inb_S2048x1_S2048x1_0_0).emb y)) = I.i c :=
  Memref.readAt_unit_zero (Elt F) cc0_stg2_0 (funext fun a => by fin_cases a <;> rfl) _ (I.i c)

/-- What the body needs. -/
def bodyIn (c : Dev nD) : sProp 𝕄 :=
  iprop(linear c ∗ credits c ∗ (∃ W, owes (c : Thread nD τ) (O₀ c) W) ∗ comAny c Finset.univ
    ∗ (xOn I c ∗ rOn I c ∗ iOn I c ∗ eOn I c ∗ wOn I c) ∗ ∃ f : OutC F, outOn c Finset.univ f)
/-- What it leaves: the inputs unchanged, the result, the semaphores at zero, nothing owed. -/
def bodyOut (c : Dev nD) : sProp 𝕄 :=
  iprop((bigSep Finset.univ fun k : Option (Bool × Xf) => semVal (cell c k) 0) ∗ (∃ W, owes (c : Thread nD τ) 0 W) ∗ comAny c Finset.univ
    ∗ (xOn I c ∗ rOn I c ∗ iOn I c ∗ eOn I c ∗ wOn I c) ∗ outOn c Finset.univ (R I))

theorem finish_body (c : Dev nD) :
    iprop(env (A I) (R I) K ∗ atPos ER (barCell c) 1 ∅ 0 ∗ Inv I c 18 ∗ eOn I c ∗ rOn I c ∗ iOn I c) ⊢ |={Set.univ}=> bodyOut I c := by
  unfold Inv bodyOut
  rw [show min 18 (18 + 3) = 18 from rfl]
  iintro ⟨#HE, HatB, ⟨Hb, Hps, Hx, Hw⟩, He, Hr, Hi⟩
  ihave Hb := (bk_end (F := F) c) $$ Hb
  icases Hb with ⟨HO, HS, HV⟩
  ihave Hps := (parts_end I c) $$ Hps
  icases Hps with ⟨Ho, Hc⟩
  ihave Hz := (close_all K (A I) (R I) c) $$ [HatB HS HV]
  · isplitr; · iexact HE
    rw [cells_split]
    isplitl [HatB]; · iexact HatB
    isplitl [HS]; · iexact HS
    iexact HV
  imod Hz with Hz
  imodintro
  isplitl [Hz]; · iexact Hz
  isplitl [HO]; · iexact HO
  isplitl [Hc]; · iexact Hc
  isplitr [Ho]
  · isplitl [Hx]; · iexact Hx
    isplitl [Hr]; · iexact Hr
    isplitl [Hi]; · iexact Hi
    isplitl [He] <;> iassumption
  iexact Ho

theorem wp_body (c : Dev nD) {Q : PUnit → sProp 𝕄} :
    env (A I) (R I) K ⊢ iprop(bodyIn I c -∗ (bodyOut I c -∗ Q ⟨⟩) -∗ wpAt c (body (F := F)) Q) := by
  unfold body bodyIn linear credits
  simp only [signal, semSignalWord, semWaitWord, Prog.lift, Prog.bind_op, Prog.bind_ret, Prog.pure_eq_ret, wp_deviceId]
  iintro #HE ⟨⟨HatB, HatS, HatV, HtB, HtS, HtV⟩, ⟨HcB, HcV⟩, HO, Hc, ⟨Hx, Hr, Hi, He, Hw⟩, ⟨%f, Ho⟩⟩ Hk
  ihave Hc := ((Entails.of_eq (com_whole (F := F) c)).trans (byPart_byAxis _)) $$ Hc
  unfold byAxis
  icases Hc with ⟨Hc0, Hc1, Hc2⟩
  ihave HtB := (Entails.of_eq (bigSep_three (F := F) fun a : Fin 3 => dutyTok ER (barCell (nbr a c)) 0 a)) $$ HtB
  icases HtB with ⟨Ht0, Ht1, Ht2⟩
  iapply (wp_sig (A I) (R I) K c _ 0 (Fin.ext (devB_eq 0 c)) (O := O₀ c) (X := O₁ c) rfl) $$ HE HO Ht0 [Hc0]
  · unfold slotsOn; iexact Hc0
  iintro HO
  iapply (wp_sig (A I) (R I) K c _ 1 (Fin.ext (devB_eq 1 c)) (O := O₁ c) (X := O₂ c) rfl) $$ HE HO Ht1 [Hc1]
  · unfold slotsOn; iexact Hc1
  iintro HO
  iapply (wp_sig (A I) (R I) K c _ 2 (Fin.ext (devB_eq 2 c)) (O := O₂ c) (X := owedFrom c 0) rfl) $$ HE HO Ht2 [Hc2]
  · unfold slotsOn; iexact Hc2
  iintro HO
  iapply (wp_entry (A I) (R I) K c) $$ HE HO HatB HcB
  iintro ⟨HO, HatB, Hp⟩
  iapply (wp_ldX I c _) $$ Hx
  iintro Hx
  iapply (wp_ldR I c _) $$ Hr
  iintro Hr
  iapply (wp_ldI I c _) $$ Hi
  iintro Hi
  rw [xload, rload, iload]
  iapply (wpAt_bind c)
  iapply (wp_produce I K c 3 _) $$ HE [HO HatS HtS HatV HcV HtV Ho Hp He]
  · unfold Pre
    isplitl [HO HatS HtS HatV HcV HtV]
    · iapply (bk_start (F := F) c)
      isplitl [HO]; · iexact HO
      isplitl [HatS]; · iexact HatS
      isplitl [HtS]; · iexact HtS
      isplitl [HatV]; · iexact HatV
      isplitl [HcV] <;> iassumption
    isplitl [Ho Hp]
    · iapply (fresh_intro I c f)
      isplitl [Ho] <;> iassumption
    iexact He
  iintro Hpre
  ihave Hinv := (inv_zero I c) $$ [Hpre Hx Hw]
  · isplitl [Hpre]; · iexact Hpre
    isplitl [Hx] <;> iassumption
  icases Hinv with ⟨Hinv, He⟩
  iapply (wp_fupd)
  iapply (wp_exchange I K c 18 _) $$ HE Hinv
  iintro Hinv
  imod (finish_body I K c) $$ [HatB Hinv He Hr Hi] with Hout
  · isplitr; · iexact HE
    isplitl [HatB]; · iexact HatB
    isplitl [Hinv]; · iexact Hinv
    isplitl [He]; · iexact He
    isplitl [Hr] <;> iassumption
  imodintro
  iapply Hk; iexact Hout

end Cert.CubeProof

end
-- ==== Proof.Launch.lean ====
/-
The launch of the eight devices, and what a run leaves in memory.

The semaphores' rounds and the tokens of their duties are made at launch and dealt out: a device keeps the tokens of
the duties it pays, its neighbours' entry signals and its peers' receive semaphores.
-/
module

public import proofs.«01_k».proof.Proof.Whole
public import proofs.«01_k».proof.Proof.Gen.KernelIdeal.Launch
public import proofs.«01_k».proof.Proof.Gen.KernelIdeal.Points
public import proofs.«01_k».proof.Proof.Gen.KernelIdeal.Frame

@[expose] public section

noncomputable section

namespace Cert.CubeProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The inputs and the pipeline's data -/

/-- The input blocks, read off the memory a run starts from. -/
def ins : Ins F where
  x c := (win0_0.blk (0 : Fin 1)).view.read (Elt F) (m ((c : Thread nD τ).loc main_arg0))
  r c := (win0_1.blk (0 : Fin 1)).view.read (Elt F) (m ((c : Thread nD τ).loc main_arg1))
  i c := (win0_2.blk (0 : Fin 1)).view.read (Elt F) (m ((c : Thread nD τ).loc main_arg2))
  e c := (win0_3.blk (0 : Fin 1)).view.read (Elt F) (m ((c : Thread nD τ).loc main_arg3))
  w c := (win0_4.blk (0 : Fin 1)).view.read (Elt F) (m ((c : Thread nD τ).loc main_arg4))

/-- What a device starts the body with, and what the body leaves of it. -/
def start (c : Dev nD) : sProp 𝕄 := iprop((∃ K, records (A (ins m)) (R (ins m)) K ∗ linear c) ∗ credits c ∗ levAts L lv)
def Φ₀ (c : Dev nD) : sProp 𝕄 := iprop(start m c ∗ comAny c Finset.univ)
def Φ₁ (c : Dev nD) : sProp 𝕄 := iprop((bigSep Finset.univ fun k : Option (Bool × Xf) => semVal (cell c k) 0) ∗ comAny c Finset.univ)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m).x c
    | ⟨1, _⟩ => (ins m).r c
    | ⟨2, _⟩ => (ins m).i c
    | ⟨3, _⟩ => (ins m).e c
    | ⟨4, _⟩ => (ins m).w c
    | ⟨5, _⟩ => R (ins m)
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's obligation, window by window. -/
def stagesBefore (c : Dev nD) : sProp 𝕄 :=
  iprop((∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))
def stagesAfter (c : Dev nD) : sProp 𝕄 :=
  iprop(stg c cc0_stg0_0 ((ins m).x c) ∗ stg c cc0_stg1_0 ((ins m).r c) ∗ stg c cc0_stg2_0 ((ins m).i c) ∗ stg c cc0_stg3_0 ((ins m).e c)
    ∗ stg c cc0_stg4_0 ((ins m).w c) ∗ stg c cc0_stg5_0 (R (ins m)))

theorem stages_in (c : Dev nD) : stagesBefore m ρ c ⊢ iprop((xOn (ins m) c ∗ rOn (ins m) c ∗ iOn (ins m) c ∗ eOn (ins m) c ∗ wOn (ins m) c) ∗ ∃ f : OutC F, outOn c Finset.univ f) := by
  unfold stagesBefore xOn rOn iOn eOn wOn outOn
  iintro ⟨⟨%d0, %g0, %h0, H0⟩, ⟨%d1, %g1, %h1, H1⟩, ⟨%d2, %g2, %h2, H2⟩, ⟨%d3, %g3, %h3, H3⟩, ⟨%d4, %g4, %h4, H4⟩, %d5, %g5, %h5, H5⟩
  have e0 : g0 = (ins m).x c := by rw [h0]; unfold Dat.before; rw [if_pos (fetch0_0 t0_0)]; rfl
  have e1 : g1 = (ins m).r c := by rw [h1]; unfold Dat.before; rw [if_pos (fetch0_1 t0_0)]; rfl
  have e2 : g2 = (ins m).i c := by rw [h2]; unfold Dat.before; rw [if_pos (fetch0_2 t0_0)]; rfl
  have e3 : g3 = (ins m).e c := by rw [h3]; unfold Dat.before; rw [if_pos (fetch0_3 t0_0)]; rfl
  have e4 : g4 = (ins m).w c := by rw [h4]; unfold Dat.before; rw [if_pos (fetch0_4 t0_0)]; rfl
  subst e0 e1 e2 e3 e4
  isplitr [H5]
  · isplitl [H0]; · iexact H0
    isplitl [H1]; · iexact H1
    isplitl [H2]; · iexact H2
    isplitl [H3] <;> iassumption
  iexists g5; iexact H5

theorem stg_intro (c : Dev nD) (b : Ref sig .tc) (X : b.ty.Contents (Elt F)) : (((c : Thread nD τ).loc b) ↦{fullShare} X) ⊢ (stg c b X : sProp 𝕄) := by
  iintro H; iexists X; isplitr; · (ipureintro; rfl)
  iexact H

theorem stages_out (c : Dev nD) : iprop((xOn (ins m) c ∗ rOn (ins m) c ∗ iOn (ins m) c ∗ eOn (ins m) c ∗ wOn (ins m) c) ∗ outOn c Finset.univ (R (ins m))) ⊢ stagesAfter m c := by
  unfold stagesAfter xOn rOn iOn eOn wOn outOn
  iintro ⟨⟨H0, H1, H2, H3, H4⟩, H5⟩
  isplitl [H0]; · iapply (stg_intro c cc0_stg0_0 _); iexact H0
  isplitl [H1]; · iapply (stg_intro c cc0_stg1_0 _); iexact H1
  isplitl [H2]; · iapply (stg_intro c cc0_stg2_0 _); iexact H2
  isplitl [H3]; · iapply (stg_intro c cc0_stg3_0 _); iexact H3
  isplitl [H4]; · iapply (stg_intro c cc0_stg4_0 _); iexact H4
  iapply (stg_intro c cc0_stg5_0 _); iexact H5

def obligeIn (c : Dev nD) : sProp 𝕄 := iprop(Φ₀ m c ∗ (dats m ρ 0 c).owesAt () t0_0.castSucc ∗ stagesBefore m ρ c)
def obligeOut (c : Dev nD) : sProp 𝕄 := iprop(Φ₁ c ∗ (dats m ρ 0 c).owesAt () t0_0.succ ∗ stagesAfter m c)

theorem oblige (c : Dev nD) : obligeIn m ρ c ⊢ wpAt c (body (F := F)) fun _ => obligeOut m ρ c := by
  unfold obligeIn obligeOut Φ₀ start Φ₁ Dat.owesAt Pipeline.owesWithin
  rw [show (dats m ρ 0 c).owed t0_0.castSucc = O₀ c from rfl, show (dats m ρ 0 c).owed t0_0.succ = 0 from rfl]
  iintro ⟨⟨⟨⟨%K, #HR, Hl⟩, Hc, #Hlev⟩, Hcom⟩, ⟨%W, %hW, HO⟩, Hs⟩
  ihave Hs := (stages_in m ρ c) $$ Hs
  icases Hs with ⟨Hin, Hout⟩
  iapply (wp_body (ins m) K c) $$ [] [Hl Hc Hcom HO Hin Hout]
  · unfold env; isplitr; · iexact HR
    iexact Hlev
  · unfold bodyIn
    isplitl [Hl]; · iexact Hl
    isplitl [Hc]; · iexact Hc
    isplitl [HO]; · iexists W; iexact HO
    isplitl [Hcom]; · iexact Hcom
    isplitl [Hin] <;> iassumption
  unfold bodyOut
  iintro ⟨Hz, ⟨%W', HO⟩, Hcom, Hin, Hout⟩
  isplitl [Hz Hcom]
  · isplitl [Hz] <;> iassumption
  isplitl [HO]
  · iexists W'
    isplitr; · ipureintro; exact fun _ _ => Or.inl trivial
    iexact HO
  iapply (stages_out m c)
  isplitl [Hin] <;> iassumption

set_option maxRecDepth 8000 in
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = _ from bigSep_W0, show ∀ Φ : Fin cfg0.W → sProp 𝕄, bigSep Finset.univ Φ = _ from bigSep_W0]
  simp only [owns_whole]
  have h := oblige m ρ c
  rw [← body_eq] at h
  exact h

end Cert.CubeProof

end
-- ==== Proof.Deal.lean ====
/-
What the launch deals out, and the run of the eight devices.

At launch every semaphore gets its round, a token for each duty and a position; the devices' tokens are dealt so that
each device holds those of the duties it pays.
-/
module

public import proofs.«01_k».proof.Proof.Launch
public import Idealize.ShloMosaic.Lib.Pipeline.CollectiveSegs

@[expose] public section

noncomputable section

namespace Cert.CubeProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec osem where
  isScoped := by decide
  inj := osem_injective
  disj := by decide

theorem share_eq (c : Dev nD) (w : Fin cfg0.W) : (dats m ρ 0 c).share w = fullShare := by unfold Dat.share; split <;> rfl

def cubeCells : Finset (GSem nD τ sig) := Finset.univ.map ⟨kcell, cell_injective⟩

/-- A token for each of the three duties a semaphore may have. -/
abbrev tokOf (x : CK × Fin 3) : GSem nD τ sig × ℕ × Fin 3 := (kcell x.1, 0, x.2)
theorem tokOf_injective : Function.Injective tokOf := by
  rintro ⟨ck, d⟩ ⟨ck', d'⟩ h
  have h1 : ck = ck' := cell_injective (congrArg (fun x => x.1) h)
  have h2 : d = d' := congrArg (fun x => x.2.2) h
  rw [h1, h2]
def cubeToks : Finset (GSem nD τ sig × ℕ × Fin 3) := Finset.univ.map ⟨tokOf, tokOf_injective⟩

def u₀ : UU := (initOf (Pipeline.cells cfgs cellOf_inj) (Pipeline.launchToks cfgs cellOf_inj), initOf cubeCells cubeToks)

/-- The tokens of device `c`'s own semaphores. -/
def toks (c : Dev nD) : sProp 𝕄 := bigSep Finset.univ fun k : Option (Bool × Xf) => bigSep Finset.univ fun d : Fin 3 => dutyTok ER (cell c k) 0 d

abbrev Sc (m : (ℓ : Loc nD τ sig) → Buf (Elt F) ℓ) : Rounds.Schedule (GSem nD τ sig) (Fin 3) 𝕄 := sched (A (ins m)) (R (ins m))

/-- What the launch deals device `c`. -/
def G (c : Dev nD) : sProp 𝕄 :=
  iprop((bigSep Finset.univ fun k : Option (Bool × Xf) => roundState ER (Sc m) (cell c k) 0)
    ∗ (bigSep Finset.univ fun k : Option (Bool × Xf) => iprop(atPos ER (cell c k) 0 ∅ 0 ∗ reached ER (cell c k) 0)) ∗ toks c)
def G' (c : Dev nD) : sProp 𝕄 := iprop(∃ K, records (A (ins m)) (R (ins m)) K ∗ linear c)

theorem fund_cube : BI.own (ER (initOf cubeCells cubeToks)) ⊢ (|==> bigSep Finset.univ (G m) : sProp 𝕄) := by
  have hX (Φ : GSem nD τ sig → sProp 𝕄) : bigSep cubeCells Φ = bigSep Finset.univ fun c : Dev nD => bigSep Finset.univ fun k : Option (Bool × Xf) => Φ (cell c k) := by
    unfold cubeCells; rw [bigSep_map, bigSep_univ_prod]; rfl
  have hT : bigSep cubeToks (fun x => (dutyTok ER x.1 x.2.1 x.2.2 : sProp 𝕄)) = bigSep Finset.univ fun c : Dev nD => toks c := by
    unfold cubeToks toks; rw [bigSep_map, bigSep_univ_prod, bigSep_univ_prod]; rfl
  iintro HX
  imod (Rounds.fund ER (Sc m) cubeCells cubeToks) $$ HX with ⟨Hst, Hr, Hat, Htok⟩
  imodintro
  ihave Hst := (Entails.of_eq (hX fun g => roundState ER (Sc m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores become cells -/

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(unscopedSems0 c ∗ Pipeline.ownSems0 (Ix := Unit) (Name := ℕ) (U := UU) (Lvl := ℕ) (Val := Elt F) (τ := τ) osem c)
      = (bigSep Finset.univ fun k : Option (Bool × Xf) => semVal (cell c k) 0 : sProp 𝕄) := by
  rw [cells_split, unscopedSems0_eq]
  unfold Pipeline.ownSems0
  rw [bigSep_univ_prod, bigSep_univ_eq_bigSepL [false, true] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Sc m) κ (cell c k)))
          ∗ (bigSep Finset.univ fun k => iprop(atPos ER (cell c k) 0 ∅ 0 ∗ reached ER (cell c k) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Option (Bool × Xf) => semVal (cell c k) 0) ∗ bigSep Finset.univ fun k => roundState ER (Sc m) (cell c k) 0)
      ⊢ (|={Set.univ}=> bigSep Finset.univ fun k => iprop(∃ κ : ℕ, cellInv ER (Sc m) κ (cell c k)) : sProp 𝕄) from by
        rw [← bigSep_sep']
        exact (bigSep_mono fun k _ => (Rounds.body_intro ER (Sc m) (cell c k)).trans inv_alloc).trans (bigSep_fupd _ _)) $$ [Hv Hst] with Hinv
  · isplitl [Hv] <;> iassumption
  imodintro
  isplitl [Hinv]; · iexact Hinv
  isplitl [Hat] <;> iassumption

/-! ## Dealing the tokens -/

/-- What each device does across one of several bijections of the devices is done across it by every device. -/
theorem deal_across {J : Type} [Fintype J] (e : J → Dev nD ≃ Dev nD) (Φ : J → Dev nD → sProp 𝕄) :
    (bigSep Finset.univ fun c : Dev nD => bigSep Finset.univ fun j : J => Φ j c) = bigSep Finset.univ fun c : Dev nD => bigSep Finset.univ fun j : J => Φ j (e j c) := by
  rw [bigSep_univ_comm, bigSep_univ_comm (fun (c : Dev nD) (j : J) => Φ j (e j c))]
  exact bigSep_congr fun j _ => bigSep_univ_equiv (e j) (Φ j)

/-- The tokens of the duties device `c` pays. -/
def payToks (c : Dev nD) : sProp 𝕄 :=
  iprop((bigSep Finset.univ fun a : Fin 3 => dutyTok ER (barCell (nbr a c)) 0 a)
    ∗ (bigSep Finset.univ fun t : Xf => dutyTok ER (sendCell t c) 0 0) ∗ (bigSep Finset.univ fun t : Xf => dutyTok ER (recvCell t (peer t c)) 0 0))

theorem toks_dealt : (bigSep Finset.univ fun c : Dev nD => (toks c : sProp 𝕄)) ⊢ bigSep Finset.univ fun c : Dev nD => payToks c := by
  have h : (bigSep Finset.univ fun c : Dev nD => (toks c : sProp 𝕄)) ⊢ bigSep Finset.univ fun c : Dev nD =>
      iprop((bigSep Finset.univ fun a : Fin 3 => dutyTok ER (barCell c) 0 a)
        ∗ (bigSep Finset.univ fun t : Xf => dutyTok ER (sendCell t c) 0 0) ∗ (bigSep Finset.univ fun t : Xf => dutyTok ER (recvCell t c) 0 0)) :=
    bigSep_mono fun c _ => by
      unfold toks; rw [cells_split]
      have h0 (b : Bool) : (bigSep Finset.univ fun t : Xf => bigSep Finset.univ fun d : Fin 3 => dutyTok ER (cell c (some (b, t))) 0 d)
          ⊢ (bigSep Finset.univ fun t : Xf => dutyTok ER (cell c (some (b, t))) 0 0 : sProp 𝕄) := bigSep_mono fun t _ => bigSep_elim (Finset.mem_univ (0 : Fin 3))
      show (_ : sProp 𝕄) ⊢ (_ : sProp 𝕄)
      iintro ⟨H1, H2, H3⟩
      isplitl [H1]; · iexact H1
      isplitl [H2]
      · iapply (h0 false); iexact H2
      iapply (h0 true); iexact H3
  refine h.trans (Entails.of_eq ?_)
  unfold payToks
  rw [bigSep_sep', bigSep_sep', bigSep_sep', bigSep_sep', deal_across cross fun a c => dutyTok ER (barCell c) 0 a,
    deal_across (fun t : Xf => cross (axisAt t.1 t.2)) fun t c => dutyTok ER (recvCell t c) 0 0]
  rfl

theorem linear_intro (c : Dev nD) :
    iprop((bigSep Finset.univ fun k : Option (Bool × Xf) => atPos ER (cell c k) 0 ∅ 0) ∗ payToks c) ⊢ (linear c : sProp 𝕄) := by
  rw [cells_split]
  unfold payToks linear
  iintro ⟨⟨H1, H2, H3⟩, H4⟩
  isplitl [H1]; · iexact H1
  isplitl [H2]; · iexact H2
  isplitl [H3]; · iexact H3
  iexact H4

theorem regroup :
    (bigSep Finset.univ fun c : Dev nD => iprop((bigSep Finset.univ fun k => iprop(∃ κ : ℕ, cellInv ER (Sc m) κ (cell c k)))
          ∗ (bigSep Finset.univ fun k => iprop(atPos ER (cell c k) 0 ∅ 0 ∗ reached ER (cell c k) 0)) ∗ toks c) : sProp 𝕄)
      ⊢ bigSep Finset.univ (G' m) := by
  rw [bigSep_sep', bigSep_sep', ← bigSep_univ_prod (fun ck : CK => iprop(∃ κ : ℕ, cellInv ER (Sc m) κ (kcell ck))),
    bigSep_congr (s := Finset.univ) (fun (c : Dev nD) _ => bigSep_sep' Finset.univ (fun k : Option (Bool × Xf) => (atPos ER (cell c k) 0 ∅ 0 : sProp 𝕄)) (fun k => reached ER (cell c k) 0)),
    bigSep_sep', ← bigSep_univ_prod (fun ck : CK => (reached ER (kcell ck) 0 : sProp 𝕄))]
  iintro ⟨HI, ⟨Hat, #HR⟩, Htok⟩
  ihave HK := (BI.bigSep_exists_pi Finset.univ (fun (ck : CK) (κ : ℕ) => (cellInv ER (Sc m) κ (kcell ck) : sProp 𝕄))) $$ HI
  icases HK with ⟨%K, #HI⟩
  ihave Htk := (toks_dealt (F := F)) $$ Htok
  iapply (bigSep_under (P := records (A (ins m)) (R (ins m)) K) (Φ := linear) (Ψ := G' m) fun c _ => by
    unfold G'; iintro ⟨HR, HL⟩; iexists K; isplitl [HR] <;> iassumption)
  isplitr
  · unfold records; isplitl; · iexact HI
    iexact HR
  · iapply ((Entails.of_eq (bigSep_sep' Finset.univ (fun c : Dev nD => bigSep Finset.univ fun k : Option (Bool × Xf) => (atPos ER (cell c k) 0 ∅ 0 : sProp 𝕄)) payToks).symm).trans
      (bigSep_mono fun c _ => linear_intro (F := F) c))
    isplitl [Hat] <;> iassumption

/-- Every device's semaphores become cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cell_eq {c d : Dev nD} {k k' : Option (Bool × Xf)} (e : cell c k = cell d k') : c = d ∧ k = k' := by
  have h := cell_injective (a₁ := (c, k)) (a₂ := (d, k')) e
  exact ⟨congrArg Prod.fst h, congrArg Prod.snd h⟩
theorem recv_eq {c d : Dev nD} {t t' : Xf} (e : recvCell t c = recvCell t' d) : c = d ∧ t = t' := by
  obtain ⟨h, h'⟩ := cell_eq (k := some (true, t)) (k' := some (true, t')) e
  exact ⟨h, by injection h' with h'; injection h'⟩
theorem bar_ne_recv {c d : Dev nD} {t : Xf} (e : barCell c = recvCell t d) : False := by
  obtain ⟨-, h⟩ := cell_eq (k := none) (k' := some (true, t)) e
  injection h

/-- A unit owed across an axis to the entry semaphore. -/
theorem bar_unit (a : Fin 3) (d c : Dev nD) : (tallyAt (barCell (nbr a d)) () 1 : CellTallies nD τ sig Unit) (barCell c) () = if d = nbr a c then 1 else 0 := by
  rw [tallyAt_apply]
  by_cases h : d = nbr a c
  · subst h; rw [nbr_nbr, if_pos ⟨rfl, rfl⟩, if_pos rfl]
  · rw [if_neg h, if_neg]
    intro h'
    exact h (by rw [(cell_eq h'.1).1, nbr_nbr])
theorem recv_owed (t t' : Xf) (d c : Dev nD) :
    (tallyAt (recvCell t' (peer t' d)) () (amt t') : CellTallies nD τ sig Unit) (recvCell t c) () = if t' = t ∧ d = peer t c then amt t else 0 := by
  rw [tallyAt_apply]
  by_cases h : t' = t ∧ d = peer t c
  · obtain ⟨rfl, rfl⟩ := h; rw [peer_peer, if_pos ⟨rfl, rfl⟩, if_pos ⟨rfl, rfl⟩]
  · rw [if_neg h, if_neg]
    intro h'
    obtain ⟨h1, h2⟩ := recv_eq h'.1
    subst h2
    exact h ⟨rfl, by rw [h1, peer_peer]⟩

theorem owed_bar (d c : Dev nD) : O₀ d (barCell c) () = (if d = nbr 2 c then 1 else 0) + (if d = nbr 1 c then 1 else 0) + (if d = nbr 0 c then 1 else 0) := by
  have h0 : owedFrom d 0 (barCell c) () = 0 := by
    by_contra h
    obtain ⟨t, -, ht⟩ := owedFrom_pos (Nat.pos_of_ne_zero h)
    exact bar_ne_recv ht
  unfold O₀ O₁ O₂
  rw [Pi.add_apply, Finsupp.add_apply, Pi.add_apply, Finsupp.add_apply, Pi.add_apply, Finsupp.add_apply, h0, bar_unit, bar_unit, bar_unit, Nat.zero_add]

theorem owed_recv (t : Xf) (d c : Dev nD) : O₀ d (recvCell t c) () = if d = peer t c then amt t else 0 := by
  have hb (a : Fin 3) : (tallyAt (barCell (nbr a d)) () 1 : CellTallies nD τ sig Unit) (recvCell t c) () = 0 := by
    rw [tallyAt_apply, if_neg fun h => bar_ne_recv h.1.symm]
  unfold O₀ O₁ O₂ owedFrom
  rw [Pi.add_apply, Finsupp.add_apply, Pi.add_apply, Finsupp.add_apply, Pi.add_apply, Finsupp.add_apply, hb, hb, hb, Finset.sum_apply, Finsupp.finset_sum_apply,
    Finset.sum_congr rfl fun t' _ => recv_owed t t' d c, Finset.sum_eq_single_of_mem t (Finset.mem_filter.mpr ⟨Finset.mem_univ _, Nat.zero_le _⟩)
      fun t' _ h => if_neg fun h' => h h'.1]
  simp only [eq_self_iff_true, _root_.true_and, Nat.add_zero]

theorem launch_bar (c : Dev nD) : tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (nbr 2 c) fun _ => 1, Finset.sum_ite_eq' Finset.univ (nbr 1 c) fun _ => 1, Finset.sum_ite_eq' Finset.univ (nbr 0 c) fun _ => 1,
    if_pos (Finset.mem_univ _), if_pos (Finset.mem_univ _), if_pos (Finset.mem_univ _)]
theorem launch_recv (t : Xf) (c : Dev nD) :
    tallyOn (recvCell t c) (launchCredit (Pipeline.owing O₀) 0 (recvCell t c)) = (tallyAt (recvCell t c) () (amt t) : CellTallies nD τ sig Unit) := by
  unfold tallyAt; refine congrArg _ (Finsupp.ext fun u => ?_); cases u
  rw [Pipeline.launchCredit_owing, Finsupp.single_eq_same, Finset.sum_congr rfl fun d _ => owed_recv t d c, Finset.sum_ite_eq' Finset.univ (peer t c) fun _ => amt t,
    if_pos (Finset.mem_univ _)]

theorem creds (c : Dev nD) : (Pipeline.launchCred O₀ c : sProp 𝕄) ⊢ credits c := by
  classical
  unfold Pipeline.launchCred credits
  refine (bigSep_subset (Finset.subset_univ (Finset.univ.map ⟨csem, csem_injective⟩))).trans ?_
  rw [bigSep_map, cells_split]
  show (_ : sProp 𝕄) ⊢ (_ : sProp 𝕄)
  iintro ⟨H1, -, H2⟩
  isplitl [H1]
  · iapply (Entails.of_eq (congrArg cred (launch_bar c))); iexact H1
  · iapply (Entails.of_eq (bigSep_congr fun t _ => congrArg cred (launch_recv t c))); iexact H2

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ comAny comOn
  iintro ⟨Hs, -, ⟨%f, Hr⟩⟩
  isplitl [Hs]; · iexact Hs
  iexists f; iexact Hr

theorem phi_out (c : Dev nD) : (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ comAny comOn
  rw [← sems0_eq]
  iintro ⟨⟨Hu, Ho⟩, ⟨%f, Hr⟩⟩
  isplitl [Hu]; · iexact Hu
  isplitl [Ho]; · iexact Ho
  iexists f; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> exact keyOf_low _ (by decide)) _ (by
      rcases t with ⟨_ | _, ht⟩
      · exact Or.inl rfl
      · exact Or.inr rfl)

/-- What window `w`'s array holds on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero, every fair execution of the eight devices ends, the arrays hold what
    the pipeline writes back, and every semaphore is at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cube m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.CubeProof

end
-- ==== Proof.Result.lean ====
/-
What the arrays hold after the run: the arguments unchanged, the result the one value `R` on every device. The three
statements that a program runs and leaves its arguments follow.
-/
module

public import proofs.«01_k».proof.Defs
public import proofs.«01_k».proof.Proof.Deal
public import proofs.«01_k».proof.Proof.Gen.Kernel
public import proofs.«01_k».proof.Proof.Gen.ReferenceIdeal.Run
public import Idealize.ShloMosaic.Lib.Pipeline.ValueKit
public import Idealize.ShloMosaic.Lib.Quiescent

@[expose] public section

noncomputable section

namespace Cert.CubeProof

open Cert.KernelIdeal Cert.KernelIdeal.Gen
open Idealize.ShloMosaic Idealize.ShloMosaic.TcCoe
open Idealize.SL Sem

variable {F : FTy → Type} [FloatOps F]
variable (m : (ℓ : Loc nD τ sig) → Buf (Elt F) ℓ) (ρ : Dev nD → PrngReg)

/-- An input's array after the run holds what it held. -/
theorem final_in (c : Dev nD) (w : Fin cfg0.W) (h : w ≠ (5 : Fin 6)) :
    finalA m ρ c w = m ((cfg0.win w).arr.view.loc (c : Thread nD τ)) := by
  have key : ∀ w : Fin cfg0.W, w ≠ (5 : Fin 6) → (cfg0.win w).isOut = false := by decide
  exact (dats m ρ 0 c).arrAt_in w (key w h) _

/-- The result's array after the run holds the one value. -/
theorem final_out (c : Dev nD) : finalA m ρ c (5 : Fin 6) = R (ins m) := by
  refine (dats m ρ 0 c).arrAt_eq_of_after_last (5 : Fin 6) t0_0 (by decide +kernel) _ fun j => ?_
  rfl

/-- Every fair execution ends with the result in place, the arguments unchanged and the semaphores at zero. -/
theorem run_values : θ_run defs (onTc (τ := τ) (main (F := F))) ⟨m, fun _ => 0, ρ⟩ (fun r =>
    (∀ c : Dev nD, r.2.mem ((c.tc : Thread nD τ).loc main_v1) = R (ins m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c =>
    ⟨(h.1 c 5).trans (final_out m ρ c), (h.1 c 0).trans (final_in m ρ c 0 (by decide)), (h.1 c 1).trans (final_in m ρ c 1 (by decide)),
      (h.1 c 2).trans (final_in m ρ c 2 (by decide)), (h.1 c 3).trans (final_in m ρ c 3 (by decide)), (h.1 c 4).trans (final_in m ρ c 4 (by decide))⟩, h.2⟩)
    (run_main m ρ)

/-- Every fair execution ends with the arguments unchanged and the semaphores at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c => (h.1 c).2, h.2⟩) (run_values m ρ)

end Cert.CubeProof

end
-- ==== Proof.Frames.lean ====
/-
The statements that each program runs, leaves its arguments and leaves every semaphore at zero. The kernel as printed has
the idealized kernel's text, so its run is the idealized kernel's run over words.
-/
module

public import proofs.«01_k».proof.Proof.Result
public import proofs.«01_k».proof.Proof.Gen.ReferenceIdeal.Run

@[expose] public section

noncomputable section

namespace Cert.CubeProof

open Idealize.ShloMosaic Idealize.SL Sem

/-- The idealized kernel runs, leaves its arguments and its semaphores. -/
theorem frame_ideal : Cert.quiescent_KernelIdeal := fun m ρ _ => run_frame m ρ

/-- The same where the precondition is assumed. -/
theorem frame_ideal_pre [Cert.Pre_in_range_KernelIdeal.Facts] : Cert.quiescent_KernelIdeal_pre_in_range_KernelIdeal :=
  fun m ρ _ => run_frame m ρ

/-- The reference runs, leaves its arguments, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the precondition is assumed. -/
theorem frame_reference_pre [Cert.Pre_in_range_ReferenceIdeal.Facts] : Cert.quiescent_ReferenceIdeal_pre_in_range_ReferenceIdeal :=
  fun m ρ _ => frame_reference m ρ trivial

set_option maxRecDepth 100000 in
set_option maxHeartbeats 2000000 in
/-- Their tables of bodies are equal. -/
theorem tables_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

/-- So are the tables with the pipeline's regions. -/
theorem defs_eq : Cert.Kernel.defs (F := Bits) = Cert.KernelIdeal.defs (F := Bits) := congrArg (Pipeline.defs _) tables_eq

/-- The kernel as printed runs, leaves its arguments and its semaphores. -/
theorem frame_kernel : Cert.quiescent_Kernel := fun m ρ _ => by
  rw [defs_eq]
  exact run_frame (F := Bits) m ρ

end Cert.CubeProof

end
-- ==== Proof.Sums.lean ====
/-
The kernel's result read at one row and one column, over the extended reals: the row's probability of the expert it is
routed to times that expert's product, plus the shared product. Of the 64 weighted products the eight devices add, all but
one have weight zero.
-/
module

public import proofs.«01_k».proof.Proof.Value
public import Idealize.ShloMosaic.Lib.Pointwise
public import Idealize.ShloMosaic.Lib.MatmulPlain

@[expose] public section

set_option maxRecDepth 16384

noncomputable section

namespace Cert.CubeProof

open Cert.KernelIdeal Cert.KernelIdeal.Gen
open Idealize.ShloMosaic Idealize.ShloMosaic.TcCoe

/-! ## The row's probability -/

/-- The score of expert `e` for row `r`. -/
def score (X : FVec Ideal S2048x512 .f32) (W : FVec Ideal S512x64 .f32) (r : Fin 2048) (e : Fin 64) : EReal :=
  ∑ k : Fin 512, X (ix2 r k) * W (ix2 k e)

/-- The exponential of a score less the row's greatest. -/
def expo (X : FVec Ideal S2048x512 .f32) (W : FVec Ideal S512x64 .f32) (r : Fin 2048) (e : Fin 64) : EReal :=
  Ideal.exp (score X W r e - Finset.fold max (Ideal.ofBits FTy.f32 0xFF800000#32) (fun x => score X W r x) Finset.univ)

/-- The probability of expert `e` at row `r`. -/
def prob (X : FVec Ideal S2048x512 .f32) (W : FVec Ideal S512x64 .f32) (r : Fin 2048) (e : Fin 64) : EReal :=
  Ideal.div (expo X W r e) (∑ x : Fin 64, expo X W r x)

theorem ofNat_eq_iff {a b : ℕ} (ha : a < 64) (hb : b < 64) : Iff (BitVec.ofNat 32 a = BitVec.ofNat 32 b) (a = b) := by
  constructor
  · intro h
    have := congrArg BitVec.toNat h
    simp only [BitVec.toNat_ofNat] at this
    omega
  · rintro rfl; rfl

/-- A condition as a float is one or zero. -/
theorem bit_float (a b : BitVec 32) :
    (FloatOps.sitofp (F := Ideal) FTy.f32 (BitVec.setWidth 32 (IntOp.cmpi CmpIPredicate.eq a b)) : EReal) = if a = b then 1 else 0 := by
  show ((((BitVec.setWidth 32 (IntOp.cmpi CmpIPredicate.eq a b)).toInt : ℤ) : ℝ) : EReal) = _
  by_cases h : a = b
  · subst h; simp [IntOp.cmpi]
  · rw [if_neg h, show IntOp.cmpi CmpIPredicate.eq a b = 0#1 by simp [IntOp.cmpi, beq_false_of_ne h]]; simp

/-- The one-hot sum picks the probability of the routed expert. -/
theorem psel_apply (X : FVec Ideal S2048x512 .f32) (W : FVec Ideal S512x64 .f32) (ix : IVec S2048x1 32) (r : Fin 2048) (e : Fin 64)
    (he : ix (ix2 r 0) = BitVec.ofNat 32 e.val) : k0_pay3 (F := Ideal) X W ix (ix2 r 0) = prob X W r e := by
  pointwise [k0_pay3, k0_pay1, k0_pay2]
  simp only [bit_float, he]
  rw [Finset.sum_eq_single e]
  · rw [if_pos rfl, mul_one]; rfl
  · intro b _ hb
    rw [if_neg (fun h => hb (Fin.ext ((ofNat_eq_iff e.isLt b.isLt).1 h).symm)), mul_zero]
  · intro h; exact absurd (Finset.mem_univ _) h

/-! ## One expert's weighted product -/

/-- Entry `j` of device `c`'s coefficient column. -/
theorem coef_apply (c : Dev nD) (j : Fin 8) (ix : IVec S2048x1 32) (ps : FVec Ideal S2048x1 .f32) (i : S2048x1.Idx) :
    coef c j ix ps i = if ix i = BitVec.ofNat 32 (8 * c.val + j.val) then ps i else (0 : EReal) := by
  have key : ∀ (c : Dev nD) (j : Fin 8), Scalar.addi (Scalar.muli (me c) 8#32) (BitVec.ofNat 32 j.val) = BitVec.ofNat 32 (8 * c.val + j.val) := by
    decide +kernel
  unfold coef
  rw [key c j]
  show Scalar.select (IntOp.cmpi CmpIPredicate.eq (ix i) (BitVec.ofNat 32 (8 * c.val + j.val))) (ps i) (Ideal.ofBits FTy.f32 0) = _
  by_cases h : ix i = BitVec.ofNat 32 (8 * c.val + j.val)
  · rw [if_pos h, h]; simp [IntOp.cmpi, Scalar.select]
  · rw [if_neg h, show IntOp.cmpi CmpIPredicate.eq (ix i) (BitVec.ofNat 32 (8 * c.val + j.val)) = 0#1 by simp [IntOp.cmpi, beq_false_of_ne h]]
    simp [Scalar.select, Ideal.ofBits_zero_f32]

/-- A weighted product at a row and a column of its part. -/
theorem term_apply (p : Fin 3) (X : FVec Ideal S2048x512 .f32) (k : FVec Ideal S2048x1 .f32) (W : FVec Ideal ⟨3, ![1, 512, colW p]⟩ .f32)
    (r : Fin 2048) (o : Fin (colW p)) :
    term p X k W (ix2 r o) = k (ix2 r 0) * ∑ q : Fin 512, X (ix2 r q) * W (ix3 0 q o) := by
  have hk : broadcastTo ⟨2, ![2048, colW p]⟩ k (bc_ok p) (ix2 r o) = k (ix2 r 0) :=
    broadcastTo_apply k (bc_ok p) _ _ fun a => by match a with | 0 => rfl | 1 => rfl
  have hW : ∀ q : Fin 512, shapeCast ⟨2, ![512, colW p]⟩ W (sc_e p) (ix2 q o) = W (ix3 0 q o) := fun q =>
    shapeCast_apply W (sc_e p) _ _ (by
      rw [rowMajor_val3 _ (512 * colW p) (colW p) rfl rfl, rowMajor_val2 _ (colW p) rfl]
      show 0 * _ + _ + _ = _
      rw [Nat.zero_mul, Nat.zero_add]; rfl)
  show broadcastTo ⟨2, ![2048, colW p]⟩ k (bc_ok p) (ix2 r o) * FloatOps.matmul (DotDims.plain 2048 512 (colW p)) none X _ _ (ix2 r o) = _
  rw [hk]
  refine congrArg (k (ix2 r 0) * ·) ((Ideal.matmul_plain_apply none X _ _ r o).trans ?_)
  refine Eq.trans ?_ (zero_add _)
  refine congr (congrArg _ Ideal.ofBits_zero_f32) (Finset.sum_congr rfl fun q _ => congrArg (X (ix2 r q) * ·) (hW q))

/-- The shared product at a row and a column of its part. -/
theorem shared_apply (p : Fin 3) (X : FVec Ideal S256x512 .f32) (W : FVec Ideal ⟨2, ![512, colW p]⟩ .f32)
    (r : Fin 256) (o : Fin (colW p)) :
    sharedTerm p X W (ix2 r o) = ∑ q : Fin 512, X (ix2 r q) * W (ix2 q o) := by
  unfold sharedTerm
  rw [shapeCast_self, shapeCast_self]
  refine (Ideal.matmul_plain_apply none X W _ r o).trans ?_
  exact (congrArg (· + _) Ideal.ofBits_zero_f32).trans (zero_add _)

/-! ## The sums over experts and devices -/

variable (I : Ins Ideal)

/-- A device's partial result is the sum of its eight experts' terms. -/
theorem E_apply (p : Fin 3) (c : Dev nD) (y : (⟨2, ![2048, colW p]⟩ : Shape).Idx) :
    E I p c 7 (by decide) y = ∑ j : Fin 8, eTerm I p c j y := by
  rw [Fin.sum_univ_eight]; rfl

set_option backward.proofsInPublic true in
/-- The eight devices three halving steps bring together, on each device. -/
theorem met_all (p : Fin 3) (c : Dev nD) :
    (([c, nbr (axisAt 0 p) c, nbr (axisAt 1 p) c, nbr (axisAt 0 p) (nbr (axisAt 1 p) c),
      nbr (axisAt 2 p) c, nbr (axisAt 0 p) (nbr (axisAt 2 p) c), nbr (axisAt 1 p) (nbr (axisAt 2 p) c),
      nbr (axisAt 0 p) (nbr (axisAt 1 p) (nbr (axisAt 2 p) c))] : List (Dev nD)) : Multiset (Dev nD)) = (Finset.univ : Finset (Dev nD)).val := by
  revert p c; decide +kernel

/-- Adding the same way over any values gives their sum. -/
theorem met_sum (p : Fin 3) (c : Dev nD) (f : Dev nD → EReal) :
    ((f c + f (nbr (axisAt 0 p) c)) + (f (nbr (axisAt 1 p) c) + f (nbr (axisAt 0 p) (nbr (axisAt 1 p) c))))
      + ((f (nbr (axisAt 2 p) c) + f (nbr (axisAt 0 p) (nbr (axisAt 2 p) c)))
        + (f (nbr (axisAt 1 p) (nbr (axisAt 2 p) c)) + f (nbr (axisAt 0 p) (nbr (axisAt 1 p) (nbr (axisAt 2 p) c)))))
      = ∑ d : Dev nD, f d := by
  show _ = ((Finset.univ : Finset (Dev nD)).val.map f).sum
  rw [← met_all p c]
  simp only [Multiset.map_coe, Multiset.sum_coe, List.map_cons, List.map_nil, List.sum_cons, List.sum_nil, add_zero, add_assoc]

/-- After three halving steps an entry holds the sum over the devices. -/
theorem A_apply (p : Fin 3) (c : Dev nD) (i : S2048x1024.Idx) :
    (show EReal from A I p 3 c i) = ∑ d : Dev nD, (show EReal from A I p 0 d i) :=
  met_sum p c fun d => (show EReal from A I p 0 d i)

/-! ## The result -/

/-- What the eight devices hold, when it is one set of arrays with the experts' weights cut in eight. -/
structure Shared (X : FVec Ideal S2048x512 .f32) (W : FVec Ideal S512x64 .f32) (ix : IVec S2048x1 32)
    (EW : FVec Ideal ⟨3, ![64, 512, 1024]⟩ .f32) (SW : FVec Ideal S512x1024 .f32) : Prop where
  x : ∀ c, I.x c = X
  r : ∀ c, I.r c = W
  i : ∀ c, I.i c = ix
  e : ∀ (c : Dev nD) (j : Fin 8) (q : Fin 512) (o : Fin 1024) (h : 8 * c.val + j.val < 64),
    I.e c (ix3 j q o) = EW (ix3 ⟨8 * c.val + j.val, h⟩ q o)
  w : ∀ c, I.w c = SW

variable {I}
variable {X : FVec Ideal S2048x512 .f32} {W : FVec Ideal S512x64 .f32} {ix : IVec S2048x1 32}
  {EW : FVec Ideal ⟨3, ![64, 512, 1024]⟩ .f32} {SW : FVec Ideal S512x1024 .f32}

theorem slot_lt (c : Dev nD) (j : Fin 8) : 8 * c.val + j.val < 64 := by
  have := (show c.val < 8 from c.isLt); have := j.isLt; omega

/-- A device's term for one of its experts: the routed expert's product weighted by its probability, or zero. -/
theorem eTerm_apply (H : Shared I X W ix EW SW) (p : Fin 3) (c : Dev nD) (j : Fin 8) (r : Fin 2048) (o : Fin (colW p)) (O : Fin 1024)
    (hO : O.val = colAt p + o.val) (e : Fin 64) (he : ix (ix2 r 0) = BitVec.ofNat 32 e.val) :
    eTerm I p c j (ix2 r o) = if e.val = 8 * c.val + j.val then prob X W r e * ∑ q : Fin 512, X (ix2 r q) * EW (ix3 e q O) else (0 : EReal) := by
  rw [show eTerm I p c j (ix2 r o) = _ from term_apply p _ _ _ r o, coef_apply]
  have h2 : k0_pay2 (F := Ideal) (I.i c) = ix := (shapeCast_self _ _).trans (H.i c)
  have h1 : k0_pay1 (F := Ideal) (I.x c) = X := (shapeCast_self _ _).trans (H.x c)
  have hp : psel I c (ix2 r 0) = prob X W r e := by
    unfold psel; rw [H.x, H.r, H.i]; exact psel_apply X W ix r e he
  have hE : ∀ q : Fin 512, eSl I p c j (ix3 0 q o) = EW (ix3 ⟨8 * c.val + j.val, slot_lt c j⟩ q O) := fun q => by
    rw [← H.e c j q O (slot_lt c j)]
    refine congrArg (I.e c) (funext fun a => Fin.ext ?_)
    match a with
    | 0 => show j.val + 1 * 0 = j.val; omega
    | 1 => show 0 + 1 * q.val = q.val; omega
    | 2 => show colAt p + 1 * o.val = O.val; omega
  rw [h1, h2, hp, he]
  simp only [hE]
  by_cases h : e.val = 8 * c.val + j.val
  · rw [if_pos (congrArg _ h), if_pos h, show (⟨8 * c.val + j.val, slot_lt c j⟩ : Fin 64) = e from Fin.ext h.symm]
  · rw [if_neg (fun h' => h ((ofNat_eq_iff e.isLt (slot_lt c j)).1 h')), if_neg h, zero_mul]

/-- All the devices' terms together are the routed expert's. -/
theorem sum_terms (e : Fin 64) (v : EReal) :
    (∑ c : Dev nD, ∑ j : Fin 8, if e.val = 8 * c.val + j.val then v else (0 : EReal)) = v := by
  have he := e.isLt
  rw [Finset.sum_eq_single (⟨e.val / 8, by show _ < 8; omega⟩ : Dev nD), Finset.sum_eq_single (⟨e.val % 8, by omega⟩ : Fin 8)]
  · rw [if_pos (by show e.val = 8 * (e.val / 8) + e.val % 8; omega)]
  · intro j _ hj
    refine if_neg fun h => hj (Fin.ext ?_)
    have := j.isLt
    have h : e.val = 8 * (e.val / 8) + j.val := h
    show j.val = e.val % 8; omega
  · intro h; exact absurd (Finset.mem_univ _) h
  · intro c _ hc
    refine Finset.sum_eq_zero fun j _ => if_neg fun h => hc (Fin.ext ?_)
    have := j.isLt
    show c.val = e.val / 8; omega
  · intro h; exact absurd (Finset.mem_univ _) h

/-- A block's own coordinates. -/
theorem ixBlk_eq (n : ℕ) (hn : 0 < n) (p : Fin 3) (r o : ℕ) (ho : o < colW p) :
    ixBlk n hn p r o = ix2 ⟨r % n, Nat.mod_lt _ hn⟩ ⟨o, ho⟩ := by
  funext a
  match a with
  | 0 => rfl
  | 1 => exact Fin.ext (Nat.mod_eq_of_lt ho)

theorem part_range (o : Fin 1024) : colAt (partOf o.val) ≤ o.val ∧ o.val < colAt (partOf o.val) + colW (partOf o.val) := by
  have := o.isLt
  unfold partOf
  split
  · exact ⟨Nat.zero_le _, by show o.val < 0 + 384; omega⟩
  · split
    · exact ⟨by show 384 ≤ o.val; omega, by show o.val < 384 + 384; omega⟩
    · exact ⟨by show 768 ≤ o.val; omega, by show o.val < 768 + 256; omega⟩

theorem owner_rows (p : Fin 3) (q : Fin 8) : keepAt p 3 (owner p q.val) = 256 * q.val := by
  revert p q; decide +kernel

/-- The result at a row and a column: the routed expert's product weighted by its probability, plus the shared product. -/
theorem R_apply (H : Shared I X W ix EW SW) (r : Fin 2048) (O : Fin 1024) (e : Fin 64) (he : ix (ix2 r 0) = BitVec.ofNat 32 e.val) :
    R I (ix2 r O) = (prob X W r e * ∑ q : Fin 512, X (ix2 r q) * EW (ix3 e q O)) + ∑ q : Fin 512, X (ix2 r q) * SW (ix2 q O) := by
  obtain ⟨hl, hr⟩ := part_range O
  generalize hp : partOf O.val = p at hl hr
  rw [R_on I p (ix2 r O) hl hr]
  have ho : O.val - colAt p < colW p := by omega
  show (show EReal from A I p 3 (owner p (r.val / 256)) (ix2 r O)) + sTerm I p (owner p (r.val / 256)) (ixBlk 256 _ p r.val (O.val - colAt p)) = _
  congr 1
  · rw [A_apply]
    rw [← sum_terms e (prob X W r e * ∑ q : Fin 512, X (ix2 r q) * EW (ix3 e q O))]
    refine Finset.sum_congr rfl fun c _ => ?_
    show E I p c 7 _ (ixBlk 2048 _ p r.val (O.val - colAt p)) = _
    rw [ixBlk_eq _ _ _ _ _ ho, E_apply]
    refine Finset.sum_congr rfl fun j _ => ?_
    rw [show (⟨r.val % 2048, Nat.mod_lt _ (by decide)⟩ : Fin 2048) = r from Fin.ext (Nat.mod_eq_of_lt r.isLt)]
    exact eTerm_apply H p c j r ⟨O.val - colAt p, ho⟩ O (by show O.val = colAt p + (O.val - colAt p); omega) e he
  · have hq : r.val / 256 < 8 := by have := r.isLt; omega
    rw [ixBlk_eq _ _ _ _ _ ho, show sTerm I p _ (ix2 _ _) = _ from shared_apply p _ _ _ _]
    refine Finset.sum_congr rfl fun q _ => ?_
    rw [H.x, H.w]
    have hk : offX p (owner p (r.val / 256)) = ![256 * (r.val / 256), 0] := by
      rw [offX_eq, owner_rows p ⟨r.val / 256, hq⟩]
    refine congr (congrArg _ (congrArg X (funext fun a => Fin.ext ?_))) (congrArg SW (funext fun a => Fin.ext ?_))
    · match a with
      | 0 =>
        show offX p (owner p (r.val / 256)) 0 + 1 * (r.val % 256) = r.val
        rw [hk]; show 256 * (r.val / 256) + _ = _; omega
      | 1 =>
        show offX p (owner p (r.val / 256)) 1 + 1 * q.val = q.val
        rw [hk]; show 0 + _ = _; omega
    · match a with
      | 0 => show 0 + 1 * q.val = q.val; omega
      | 1 => show colAt p + 1 * (O.val - colAt p) = O.val; omega

end Cert.CubeProof

end
-- ==== Proof.Takes.lean ====
/-
The reference's value read at one row and one column: the shared product plus the row's probability of its expert times that
expert's product. Its two selections along the experts' axis are read where the index names an expert.
-/
module

public import proofs.«01_k».proof.Proof.Sums
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.CubeProof

open Cert.ReferenceIdeal Cert.ReferenceIdeal.Gen
open Idealize.ShloMosaic Idealize.ShloMosaic.TcCoe

/-- An expert's number as a word, read back and clamped. -/
theorem word_clamp (e : Fin 64) : min (BitVec.ofNat 32 e.val).toInt.toNat (64 - 1) = e.val := by revert e; decide

/-- One entry a row: the entry at the expert the row's index names. -/
theorem take_entry {α : Type} (x : S2048x64.Idx → α) (idx : IVec S2048x1x1 32) (r : Fin 2048) (e : Fin 64)
    (h : idx (ix3 r 0 0) = BitVec.ofNat 32 e.val) :
    Host.gather gather_S2048x64_S2048x1x1_S2048x1_n_1_0_0_1_2_11 x idx (ix2 r 0) = x (ix2 r e) := by
  refine congrArg x (funext fun a => Fin.ext ?_)
  show GatherDims.start _ _ _ a + GatherDims.batchCoord _ _ a + GatherDims.offCoord _ _ a = _
  match a with
  | 0 =>
    rw [GatherDims.start_batching _ _ _ _ (List.mem_singleton.mpr rfl),
      GatherDims.offCoord_eq_zero _ _ _ (fun h => ((GatherDims.mem_sKept _ _).mp h).2 (List.mem_singleton.mpr rfl)), Nat.zero_add]
    rfl
  | 1 =>
    rw [GatherDims.batchCoord_eq_zero _ _ _ (fun h => by simp [gather_S2048x64_S2048x1x1_S2048x1_n_1_0_0_1_2_11] at h),
      GatherDims.offCoord_eq_zero _ _ _ (fun h => ((GatherDims.mem_sKept _ _).mp h).1 (List.mem_singleton.mpr rfl))]
    simp only [Nat.add_zero]
    refine (dif_pos (List.mem_singleton.mpr rfl)).trans ?_
    refine Eq.trans (congrArg (fun w : BitVec 32 => min w.toInt.toNat (64 - 1)) (Eq.trans (congrArg idx (funext fun b => Fin.ext ?_)) h)) (word_clamp e)
    match b with
    | 0 => rfl
    | 1 => rfl
    | 2 => rfl

/-- One row of 1024 a row: the one at the expert the row's index names. -/
theorem take_row {α : Type} (x : S2048x64x1024.Idx → α) (idx : IVec S2048x1x1 32) (r : Fin 2048) (O : Fin 1024) (e : Fin 64)
    (h : idx (ix3 r 0 0) = BitVec.ofNat 32 e.val) :
    Host.gather gather_S2048x64x1024_S2048x1x1_S2048x1x1024_2_1_0_0_1_2_111024 x idx (ix3 r 0 O) = x (ix3 r e O) := by
  refine congrArg x (funext fun a => Fin.ext ?_)
  show GatherDims.start _ _ _ a + GatherDims.batchCoord _ _ a + GatherDims.offCoord _ _ a = _
  match a with
  | 0 =>
    rw [GatherDims.start_batching _ _ _ _ (List.mem_singleton.mpr rfl),
      GatherDims.offCoord_eq_zero _ _ _ (fun h => ((GatherDims.mem_sKept _ _).mp h).2 (List.mem_singleton.mpr rfl)), Nat.zero_add]
    rfl
  | 1 =>
    rw [GatherDims.batchCoord_eq_zero _ _ _ (fun h => by simp [gather_S2048x64x1024_S2048x1x1_S2048x1x1024_2_1_0_0_1_2_111024] at h),
      GatherDims.offCoord_eq_zero _ _ _ (fun h => ((GatherDims.mem_sKept _ _).mp h).1 (List.mem_singleton.mpr rfl))]
    simp only [Nat.add_zero]
    refine (dif_pos (List.mem_singleton.mpr rfl)).trans ?_
    refine Eq.trans (congrArg (fun w : BitVec 32 => min w.toInt.toNat (64 - 1)) (Eq.trans (congrArg idx (funext fun b => Fin.ext ?_)) h)) (word_clamp e)
    match b with
    | 0 => rfl
    | 1 => rfl
    | 2 => rfl
  | 2 =>
    rw [GatherDims.batchCoord_eq_zero _ _ _ (fun h => by simp [gather_S2048x64x1024_S2048x1x1_S2048x1x1024_2_1_0_0_1_2_111024] at h)]
    unfold GatherDims.start
    rw [dif_neg (fun h => by simp [gather_S2048x64x1024_S2048x1x1_S2048x1x1024_2_1_0_0_1_2_111024] at h)]
    simp only [Nat.zero_add]
    rfl

/-- An expert's number is not wrapped, and passes the bounds. -/
theorem word_wrap (e : Fin 64) :
    Scalar.select (IntOp.cmpi CmpIPredicate.slt (BitVec.ofNat 32 e.val) 0#32) (IntOp.addi (BitVec.ofNat 32 e.val) 64#32) (BitVec.ofNat 32 e.val)
      = BitVec.ofNat 32 e.val := by revert e; decide
theorem word_mask (e : Fin 64) :
    IntOp.andi (IntOp.cmpi CmpIPredicate.sge (BitVec.ofNat 32 e.val) 0#32) (IntOp.cmpi CmpIPredicate.sle (BitVec.ofNat 32 e.val) 63#32) = 1#1 := by
  revert e; decide
theorem fold_one : Finset.fold IntOp.andi (1#1) (fun _ : Fin 1 => 1#1) Finset.univ = 1#1 := by decide

variable (m : (ℓ : Loc nD τ sig) → Buf (Elt Ideal) ℓ)

/-- The reference's value at a row and a column, where the row's index names an expert. -/
theorem ref_apply (r : Fin 2048) (O : Fin 1024) (e : Fin 64)
    (he : (show IVec S2048x1 32 from m (((0 : Dev nD).tc : Thread nD τ).loc main_arg2)) (ix2 r 0) = BitVec.ofNat 32 e.val) :
    (show EReal from Value.res_main_v18 m 0 (ix2 r O))
      = (∑ q : Fin 512, (show FVec Ideal S2048x512 .f32 from m (((0 : Dev nD).tc : Thread nD τ).loc main_arg0)) (ix2 r q)
          * (show FVec Ideal S512x1024 .f32 from m (((0 : Dev nD).tc : Thread nD τ).loc main_arg4)) (ix2 q O))
        + prob (m (((0 : Dev nD).tc : Thread nD τ).loc main_arg0)) (m (((0 : Dev nD).tc : Thread nD τ).loc main_arg1)) r e
          * ∑ q : Fin 512, (show FVec Ideal S2048x512 .f32 from m (((0 : Dev nD).tc : Thread nD τ).loc main_arg0)) (ix2 r q)
          * (show FVec Ideal S64x512x1024 .f32 from m (((0 : Dev nD).tc : Thread nD τ).loc main_arg3)) (ix3 e q O) := by
  unfold Value.res_main_v18
  clean_types
  pointwise []
  have he' : m (((0 : Dev nD).tc : Thread nD τ).loc main_arg2) (ix2 r 0) = BitVec.ofNat 32 e.val := he
  rw [take_entry _ _ r e (by pointwise []; rw [he']; exact word_wrap e),
    take_row _ _ r O e (by pointwise []; rw [he']; exact word_wrap e)]
  rw [he', word_wrap, word_mask, fold_one]
  pointwise [prob, expo, score]

end Cert.CubeProof

end
-- ==== Proof.Agree.lean ====
/-
The kernel's value is the reference's: where every route names an expert and the devices hold the reference's arrays, the
experts' weights cut in eight, the kernel leaves on every device what the reference computes.
-/
module

public import proofs.«01_k».proof.Defs
public import proofs.«01_k».proof.Proof.Result
public import proofs.«01_k».proof.Proof.Takes

@[expose] public section

set_option maxRecDepth 16384

noncomputable section

namespace Cert.CubeProof

open Idealize.ShloMosaic Idealize.ShloMosaic.TcCoe
open Idealize.SL Sem
open Cert.KernelIdeal (S2048x1 S2048x512 S512x64 S512x1024)

/-- A word between zero and 63 is an expert's number. -/
theorem names_expert (w : BitVec 32) (h : IntOp.cmpi CmpIPredicate.sge w 0#32 = 1#1) (h' : IntOp.cmpi CmpIPredicate.slt w 64#32 = 1#1) :
    ∃ e : Fin 64, w = BitVec.ofNat 32 e.val := by
  have h1 : (0#32).sle w = true := by
    cases hb : (0#32).sle w with
    | true => rfl
    | false => simp [IntOp.cmpi, hb] at h
  have h2 : w.slt 64#32 = true := by
    cases hb : w.slt 64#32 with
    | true => rfl
    | false => simp [IntOp.cmpi, hb] at h'
  have h3 : w.toNat < 64 := by
    simp only [BitVec.sle, BitVec.slt, decide_eq_true_eq, BitVec.toInt_eq_toNat_cond] at h1 h2
    have := w.isLt
    simp only [BitVec.toNat_ofNat] at h1 h2
    split at h2 <;> omega
  exact ⟨⟨w.toNat, h3⟩, by simp⟩

/-- A coordinate of a block at the origin is the array's own. -/
theorem at_origin (n x : ℕ) : 0 * n + 1 * x = x := by omega

section
variable (m : (ℓ : Loc Cert.KernelIdeal.nD Cert.KernelIdeal.τ Cert.KernelIdeal.sig) → Buf (Elt Ideal) ℓ)

/-! The input windows cover their arrays, so an input block is the device's array. -/

theorem ins_x (c : Dev Cert.KernelIdeal.nD) : (ins m).x c = m ((c.tc : Thread Cert.KernelIdeal.nD Cert.KernelIdeal.τ).loc Cert.KernelIdeal.main_arg0) :=
  funext fun i => congrArg (m _) (funext fun a => Fin.ext (by
    match a with | 0 => exact at_origin 2048 (i 0).val | 1 => exact at_origin 512 (i 1).val))
theorem ins_r (c : Dev Cert.KernelIdeal.nD) : (ins m).r c = m ((c.tc : Thread Cert.KernelIdeal.nD Cert.KernelIdeal.τ).loc Cert.KernelIdeal.main_arg1) :=
  funext fun i => congrArg (m _) (funext fun a => Fin.ext (by
    match a with | 0 => exact at_origin 512 (i 0).val | 1 => exact at_origin 64 (i 1).val))
theorem ins_i (c : Dev Cert.KernelIdeal.nD) : (ins m).i c = m ((c.tc : Thread Cert.KernelIdeal.nD Cert.KernelIdeal.τ).loc Cert.KernelIdeal.main_arg2) :=
  funext fun i => congrArg (m _) (funext fun a => Fin.ext (by
    match a with | 0 => exact at_origin 2048 (i 0).val | 1 => exact at_origin 1 (i 1).val))
theorem ins_e (c : Dev Cert.KernelIdeal.nD) : (ins m).e c = m ((c.tc : Thread Cert.KernelIdeal.nD Cert.KernelIdeal.τ).loc Cert.KernelIdeal.main_arg3) :=
  funext fun i => congrArg (m _) (funext fun a => Fin.ext (by
    match a with | 0 => exact at_origin 8 (i 0).val | 1 => exact at_origin 512 (i 1).val | 2 => exact at_origin 1024 (i 2).val))
theorem ins_w (c : Dev Cert.KernelIdeal.nD) : (ins m).w c = m ((c.tc : Thread Cert.KernelIdeal.nD Cert.KernelIdeal.τ).loc Cert.KernelIdeal.main_arg4) :=
  funext fun i => congrArg (m _) (funext fun a => Fin.ext (by
    match a with | 0 => exact at_origin 512 (i 0).val | 1 => exact at_origin 1024 (i 1).val))
end

/-- The two programs' results agree wherever every route names an expert. -/
theorem agree [Cert.Pre_in_range_KernelIdeal.Facts] : Cert.algebraic_KernelIdeal_ReferenceIdeal_pre_in_range_KernelIdeal := by
  intro m g m' g' hpre ha
  have H : Shared (ins m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c => (ins_x m c).trans (ha c).1
      r := fun c => (ins_r m c).trans (ha c).2.1
      i := fun c => (ins_i m c).trans (ha c).2.2.1
      e := fun c j q o h => by
        refine (congrFun ((ins_e m c).trans (ha c).2.2.2.1) (ix3 j q o)).trans ?_
        refine congrArg (m' _) (funext fun a => Fin.ext ?_)
        match a with
        | 0 => show c.val * 8 + j.val = 8 * c.val + j.val; omega
        | 1 => rfl
        | 2 => rfl
      w := fun c => (ins_w m c).trans (ha c).2.2.2.2 }
  have hv : R (ins m) = Cert.ReferenceIdeal.Value.res_main_v18 m' 0 := by
    funext i
    obtain ⟨r, O, rfl⟩ : ∃ (r : Fin 2048) (O : Fin 1024), i = ix2 r O := ⟨i 0, i 1, eq_ix2 i⟩
    have h2 := ha (0 : Dev Cert.KernelIdeal.nD) |>.2.2.1
    obtain ⟨e, he⟩ := names_expert (m ((((0 : Dev Cert.KernelIdeal.nD)).tc : Thread Cert.KernelIdeal.nD Cert.KernelIdeal.τ).loc Cert.KernelIdeal.main_arg2) (ix2 r 0))
      (congrFun (hpre 0).1 (ix2 r 0)) (congrFun (hpre 0).2 (ix2 r 0))
    have he' := (congrFun h2 (ix2 r 0)).symm.trans he
    exact (R_apply H r O e he').trans ((add_comm (G := EReal) _ _).trans (ref_apply m' r O e he').symm)
  refine ⟨Cert.ReferenceIdeal.Value.res_main_v18 m' 0, (θ_run _ _ _).mono (fun r h c => ?_) (run_values m g),
    (θ_run _ _ _).mono (fun r h => h 0) (Cert.ReferenceIdeal.Value.run (F := Ideal) m' g')⟩
  exact ⟨(h.1 c).1.trans hv, (h.1 c).2⟩

end Cert.CubeProof

end
-- ==== Proof.lean ====
/-
The proof of `Cert.Claim`: the three programs run, leave their arguments and leave every semaphore at zero; the idealized
kernel is the printed one with no rewrite; and its result is the reference's wherever every route names an expert.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Everything the statement claims. -/
theorem claim : Cert.Claim :=
  have hk : Cert.Pre_in_range_KernelIdeal.Facts := ⟨by decide⟩
  have hr : Cert.Pre_in_range_ReferenceIdeal.Facts := ⟨by decide⟩
  ⟨Cert.Kernel.Gen.facts, Cert.KernelIdeal.Gen.facts, Cert.ReferenceIdeal.Gen.facts, hk, hr, Cert.CubeProof.frame_kernel,
    Cert.CubeProof.frame_ideal, Cert.CubeProof.frame_ideal_pre, Cert.CubeProof.frame_reference, Cert.CubeProof.frame_reference_pre,
    trivial, Cert.CubeProof.agree⟩

end Cert.Proof

end
